-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 1024]⟩ ⟨2, ![64, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S8x1024 : Shape := ⟨2, ![8, 1024]⟩
abbrev S2x1024x2048 : Shape := ⟨3, ![2, 1024, 2048]⟩
abbrev S2x2048x1024 : Shape := ⟨3, ![2, 2048, 1024]⟩
abbrev S2x32x1024 : Shape := ⟨3, ![2, 32, 1024]⟩
abbrev S2x3x2x32x1024 : Shape := ⟨5, ![2, 3, 2, 32, 1024]⟩
abbrev S7x8x1024 : Shape := ⟨3, ![7, 8, 1024]⟩
abbrev S6 : Shape := ⟨1, ![6]⟩
abbrev S2x3x2 : Shape := ⟨3, ![2, 3, 2]⟩
abbrev S7 : Shape := ⟨1, ![7]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S32x1024 : Shape := ⟨2, ![32, 1024]⟩
abbrev S32x2048 : Shape := ⟨2, ![32, 2048]⟩
abbrev S1x32x1024 : Shape := ⟨3, ![1, 32, 1024]⟩
abbrev S1x1x1 : Shape := ⟨3, ![1, 1, 1]⟩
abbrev S1x1x1x32x1024 : Shape := ⟨5, ![1, 1, 1, 32, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S8x1024, .f32⟩
  | .local _ .vmem, ⟨0, _⟩ => ⟨S64x1024, .f32⟩
  | .local _ .vmem, ⟨1, _⟩ => ⟨S8x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S2x32x1024, .f32⟩
  | .local _ .vmem, ⟨5, _⟩ => ⟨S64x1024, .f32⟩
  | .local _ .vmem, ⟨6, _⟩ => ⟨S2x3x2x32x1024, .f32⟩
  | .local _ .vmem, ⟨7, _⟩ => ⟨S7x8x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v12 : BitVec 32 := Scalar.addi v2 c1_i32_7
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v16 : BitVec 32 := Scalar.addi v2 c2_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v20 : BitVec 32 := Scalar.addi v2 c3_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v24 : BitVec 32 := Scalar.addi v2 c4_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v28 : BitVec 32 := Scalar.addi v2 c5_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v32 : BitVec 32 := Scalar.addi v2 c6_i32
  let c8_i32_28 : BitVec 32 := 8#32
  let v33 : BitVec 32 := Scalar.remsi v32 c8_i32_28
  let c1_i32_30 : BitVec 32 := 1#32
  let v34 : BitVec 32 := Scalar.muli v33 c1_i32_30
  let v35 : BitVec 32 := Scalar.addi c0_i32_31 v34
  v35.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v36 : BitVec 32 := Scalar.addi v2 c7_i32
  let c8_i32_32 : BitVec 32 := 8#32
  let v37 : BitVec 32 := Scalar.remsi v36 c8_i32_32
  let c1_i32_34 : BitVec 32 := 1#32
  let v38 : BitVec 32 := Scalar.muli v37 c1_i32_34
  let v39 : BitVec 32 := Scalar.addi c0_i32_35 v38
  v39.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_65 : BitVec 32 := 4#32
  let v69 : BitVec 32 := Scalar.xori v2 c4_i32_65
  let c1_i32_76 : BitVec 32 := 1#32
  let v70 : BitVec 32 := Scalar.muli v69 c1_i32_76
  let v71 : BitVec 32 := Scalar.addi c0_i32_77 v70
  v71.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_94 : BitVec 32 := 4#32
  let v93 : BitVec 32 := Scalar.xori v2 c4_i32_94
  let c1_i32_105 : BitVec 32 := 1#32
  let v94 : BitVec 32 := Scalar.muli v93 c1_i32_105
  let v95 : BitVec 32 := Scalar.addi c0_i32_106 v94
  v95.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v127 : BitVec 32 := Scalar.xori v2 c1_i32_154
  let c1_i32_165 : BitVec 32 := 1#32
  let v128 : BitVec 32 := Scalar.muli v127 c1_i32_165
  let v129 : BitVec 32 := Scalar.addi c0_i32_166 v128
  v129.toNat
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_214 : BitVec 32 := 1#32
  let v161 : BitVec 32 := Scalar.xori v2 c1_i32_214
  let c1_i32_225 : BitVec 32 := 1#32
  let v162 : BitVec 32 := Scalar.muli v161 c1_i32_225
  let v163 : BitVec 32 := Scalar.addi c0_i32_226 v162
  v163.toNat
def k0_dev12 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_274 : BitVec 32 := 3#32
  let v195 : BitVec 32 := Scalar.xori v2 c3_i32_274
  let c1_i32_285 : BitVec 32 := 1#32
  let v196 : BitVec 32 := Scalar.muli v195 c1_i32_285
  let v197 : BitVec 32 := Scalar.addi c0_i32_286 v196
  v197.toNat
def k0_dev13 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_334 : BitVec 32 := 3#32
  let v229 : BitVec 32 := Scalar.xori v2 c3_i32_334
  let c1_i32_345 : BitVec 32 := 1#32
  let v230 : BitVec 32 := Scalar.muli v229 c1_i32_345
  let v231 : BitVec 32 := Scalar.addi c0_i32_346 v230
  v231.toNat
def k0_dev14 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_467 : BitVec 32 := 4#32
  let v315 : BitVec 32 := Scalar.xori v2 c4_i32_467
  let c1_i32_478 : BitVec 32 := 1#32
  let v316 : BitVec 32 := Scalar.muli v315 c1_i32_478
  let v317 : BitVec 32 := Scalar.addi c0_i32_479 v316
  v317.toNat
def k0_dev15 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_499 : BitVec 32 := 4#32
  let v339 : BitVec 32 := Scalar.xori v2 c4_i32_499
  let c1_i32_510 : BitVec 32 := 1#32
  let v340 : BitVec 32 := Scalar.muli v339 c1_i32_510
  let v341 : BitVec 32 := Scalar.addi c0_i32_511 v340
  v341.toNat
def k0_dev16 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_559 : BitVec 32 := 1#32
  let v373 : BitVec 32 := Scalar.xori v2 c1_i32_559
  let c1_i32_570 : BitVec 32 := 1#32
  let v374 : BitVec 32 := Scalar.muli v373 c1_i32_570
  let v375 : BitVec 32 := Scalar.addi c0_i32_571 v374
  v375.toNat
def k0_dev17 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_619 : BitVec 32 := 1#32
  let v407 : BitVec 32 := Scalar.xori v2 c1_i32_619
  let c1_i32_630 : BitVec 32 := 1#32
  let v408 : BitVec 32 := Scalar.muli v407 c1_i32_630
  let v409 : BitVec 32 := Scalar.addi c0_i32_631 v408
  v409.toNat
def k0_dev18 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_679 : BitVec 32 := 3#32
  let v441 : BitVec 32 := Scalar.xori v2 c3_i32_679
  let c1_i32_690 : BitVec 32 := 1#32
  let v442 : BitVec 32 := Scalar.muli v441 c1_i32_690
  let v443 : BitVec 32 := Scalar.addi c0_i32_691 v442
  v443.toNat
def k0_dev19 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_739 : BitVec 32 := 3#32
  let v475 : BitVec 32 := Scalar.xori v2 c3_i32_739
  let c1_i32_750 : BitVec 32 := 1#32
  let v476 : BitVec 32 := Scalar.muli v475 c1_i32_750
  let v477 : BitVec 32 := Scalar.addi c0_i32_751 v476
  v477.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_885 : BitVec 32 := 1#32
  let v574 : BitVec 32 := Scalar.addi v2 c1_i32_885
  let c8_i32_886 : BitVec 32 := 8#32
  let v575 : BitVec 32 := Scalar.remsi v574 c8_i32_886
  let c0_i32_888 : BitVec 32 := 0#32
  let v577 : BitVec 1 := Scalar.cmpi .sgt v575 c0_i32_888
  let v578 : BitVec 32 := Scalar.extui v577
  let c0_i32_889 : BitVec 32 := 0#32
  let v579 : BitVec 1 := Scalar.cmpi .slt v575 c0_i32_889
  let v580 : BitVec 32 := Scalar.extui v579
  let v581 : BitVec 32 := Scalar.subi v578 v580
  let c4_i32_887 : BitVec 32 := 4#32
  let c0_i32_890 : BitVec 32 := 0#32
  let v582 : BitVec 1 := Scalar.cmpi .sgt c4_i32_887 c0_i32_890
  let v583 : BitVec 32 := Scalar.extui v582
  let c0_i32_891 : BitVec 32 := 0#32
  let v584 : BitVec 1 := Scalar.cmpi .slt c4_i32_887 c0_i32_891
  let v585 : BitVec 32 := Scalar.extui v584
  let v586 : BitVec 32 := Scalar.subi v583 v585
  let v587 : BitVec 1 := Scalar.cmpi .ne v581 v586
  let v588 : BitVec 32 := Scalar.remsi v575 c4_i32_887
  let c0_i32_892 : BitVec 32 := 0#32
  let v589 : BitVec 1 := Scalar.cmpi .ne v588 c0_i32_892
  let v590 : BitVec 1 := Scalar.andi v587 v589
  let v576 : BitVec 32 := Scalar.divsi v575 c4_i32_887
  let c1_i32_893 : BitVec 32 := 1#32
  let v591 : BitVec 32 := Scalar.subi v576 c1_i32_893
  let v592 : BitVec 32 := Scalar.select v590 v591 v576
  let c0_i32_894 : BitVec 32 := 0#32
  let v593 : BitVec 1 := Scalar.cmpi .eq v592 c0_i32_894
  let v594 : BitVec 32 := Scalar.extui v593
  let c0_i32_898 : BitVec 32 := 0#32
  let v595 : BitVec 1 := Scalar.cmpi .ne v594 c0_i32_898
  v595

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_850 : BitVec 32 := 1#32
  let v540 : BitVec 32 := Scalar.addi v2 c1_i32_850
  let c8_i32_851 : BitVec 32 := 8#32
  let v541 : BitVec 32 := Scalar.remsi v540 c8_i32_851
  let c8_i32_852 : BitVec 32 := 8#32
  let v542 : BitVec 32 := Scalar.muli v541 c8_i32_852
  let c0_i32_1225 : BitVec 32 := 0#32
  ![v542.toNat, 0]
def k0_dev20 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_850 : BitVec 32 := 1#32
  let v540 : BitVec 32 := Scalar.addi v2 c1_i32_850
  let c8_i32_851 : BitVec 32 := 8#32
  let v541 : BitVec 32 := Scalar.remsi v540 c8_i32_851
  let c1_i32_1221 : BitVec 32 := 1#32
  let v1004 : BitVec 32 := Scalar.muli v541 c1_i32_1221
  let v1005 : BitVec 32 := Scalar.addi c0_i32_1222 v1004
  v1005.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_899 : BitVec 32 := 2#32
  let v596 : BitVec 32 := Scalar.addi v2 c2_i32_899
  let c8_i32_900 : BitVec 32 := 8#32
  let v597 : BitVec 32 := Scalar.remsi v596 c8_i32_900
  let c0_i32_902 : BitVec 32 := 0#32
  let v599 : BitVec 1 := Scalar.cmpi .sgt v597 c0_i32_902
  let v600 : BitVec 32 := Scalar.extui v599
  let c0_i32_903 : BitVec 32 := 0#32
  let v601 : BitVec 1 := Scalar.cmpi .slt v597 c0_i32_903
  let v602 : BitVec 32 := Scalar.extui v601
  let v603 : BitVec 32 := Scalar.subi v600 v602
  let c4_i32_901 : BitVec 32 := 4#32
  let c0_i32_904 : BitVec 32 := 0#32
  let v604 : BitVec 1 := Scalar.cmpi .sgt c4_i32_901 c0_i32_904
  let v605 : BitVec 32 := Scalar.extui v604
  let c0_i32_905 : BitVec 32 := 0#32
  let v606 : BitVec 1 := Scalar.cmpi .slt c4_i32_901 c0_i32_905
  let v607 : BitVec 32 := Scalar.extui v606
  let v608 : BitVec 32 := Scalar.subi v605 v607
  let v609 : BitVec 1 := Scalar.cmpi .ne v603 v608
  let v610 : BitVec 32 := Scalar.remsi v597 c4_i32_901
  let c0_i32_906 : BitVec 32 := 0#32
  let v611 : BitVec 1 := Scalar.cmpi .ne v610 c0_i32_906
  let v612 : BitVec 1 := Scalar.andi v609 v611
  let v598 : BitVec 32 := Scalar.divsi v597 c4_i32_901
  let c1_i32_907 : BitVec 32 := 1#32
  let v613 : BitVec 32 := Scalar.subi v598 c1_i32_907
  let v614 : BitVec 32 := Scalar.select v612 v613 v598
  let c0_i32_908 : BitVec 32 := 0#32
  let v615 : BitVec 1 := Scalar.cmpi .eq v614 c0_i32_908
  let v616 : BitVec 32 := Scalar.extui v615
  let c0_i32_912 : BitVec 32 := 0#32
  let v617 : BitVec 1 := Scalar.cmpi .ne v616 c0_i32_912
  v617

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_853 : BitVec 32 := 2#32
  let v543 : BitVec 32 := Scalar.addi v2 c2_i32_853
  let c8_i32_854 : BitVec 32 := 8#32
  let v544 : BitVec 32 := Scalar.remsi v543 c8_i32_854
  let c8_i32_855 : BitVec 32 := 8#32
  let v545 : BitVec 32 := Scalar.muli v544 c8_i32_855
  let c0_i32_1225 : BitVec 32 := 0#32
  ![v545.toNat, 0]
def k0_dev21 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_853 : BitVec 32 := 2#32
  let v543 : BitVec 32 := Scalar.addi v2 c2_i32_853
  let c8_i32_854 : BitVec 32 := 8#32
  let v544 : BitVec 32 := Scalar.remsi v543 c8_i32_854
  let c1_i32_1221 : BitVec 32 := 1#32
  let v1004 : BitVec 32 := Scalar.muli v544 c1_i32_1221
  let v1005 : BitVec 32 := Scalar.addi c0_i32_1222 v1004
  v1005.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_913 : BitVec 32 := 3#32
  let v618 : BitVec 32 := Scalar.addi v2 c3_i32_913
  let c8_i32_914 : BitVec 32 := 8#32
  let v619 : BitVec 32 := Scalar.remsi v618 c8_i32_914
  let c0_i32_916 : BitVec 32 := 0#32
  let v621 : BitVec 1 := Scalar.cmpi .sgt v619 c0_i32_916
  let v622 : BitVec 32 := Scalar.extui v621
  let c0_i32_917 : BitVec 32 := 0#32
  let v623 : BitVec 1 := Scalar.cmpi .slt v619 c0_i32_917
  let v624 : BitVec 32 := Scalar.extui v623
  let v625 : BitVec 32 := Scalar.subi v622 v624
  let c4_i32_915 : BitVec 32 := 4#32
  let c0_i32_918 : BitVec 32 := 0#32
  let v626 : BitVec 1 := Scalar.cmpi .sgt c4_i32_915 c0_i32_918
  let v627 : BitVec 32 := Scalar.extui v626
  let c0_i32_919 : BitVec 32 := 0#32
  let v628 : BitVec 1 := Scalar.cmpi .slt c4_i32_915 c0_i32_919
  let v629 : BitVec 32 := Scalar.extui v628
  let v630 : BitVec 32 := Scalar.subi v627 v629
  let v631 : BitVec 1 := Scalar.cmpi .ne v625 v630
  let v632 : BitVec 32 := Scalar.remsi v619 c4_i32_915
  let c0_i32_920 : BitVec 32 := 0#32
  let v633 : BitVec 1 := Scalar.cmpi .ne v632 c0_i32_920
  let v634 : BitVec 1 := Scalar.andi v631 v633
  let v620 : BitVec 32 := Scalar.divsi v619 c4_i32_915
  let c1_i32_921 : BitVec 32 := 1#32
  let v635 : BitVec 32 := Scalar.subi v620 c1_i32_921
  let v636 : BitVec 32 := Scalar.select v634 v635 v620
  let c0_i32_922 : BitVec 32 := 0#32
  let v637 : BitVec 1 := Scalar.cmpi .eq v636 c0_i32_922
  let v638 : BitVec 32 := Scalar.extui v637
  let c0_i32_926 : BitVec 32 := 0#32
  let v639 : BitVec 1 := Scalar.cmpi .ne v638 c0_i32_926
  v639

def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_856 : BitVec 32 := 3#32
  let v546 : BitVec 32 := Scalar.addi v2 c3_i32_856
  let c8_i32_857 : BitVec 32 := 8#32
  let v547 : BitVec 32 := Scalar.remsi v546 c8_i32_857
  let c8_i32_858 : BitVec 32 := 8#32
  let v548 : BitVec 32 := Scalar.muli v547 c8_i32_858
  let c0_i32_1225 : BitVec 32 := 0#32
  ![v548.toNat, 0]
def k0_dev22 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_856 : BitVec 32 := 3#32
  let v546 : BitVec 32 := Scalar.addi v2 c3_i32_856
  let c8_i32_857 : BitVec 32 := 8#32
  let v547 : BitVec 32 := Scalar.remsi v546 c8_i32_857
  let c1_i32_1221 : BitVec 32 := 1#32
  let v1004 : BitVec 32 := Scalar.muli v547 c1_i32_1221
  let v1005 : BitVec 32 := Scalar.addi c0_i32_1222 v1004
  v1005.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_927 : BitVec 32 := 4#32
  let v640 : BitVec 32 := Scalar.addi v2 c4_i32_927
  let c8_i32_928 : BitVec 32 := 8#32
  let v641 : BitVec 32 := Scalar.remsi v640 c8_i32_928
  let c0_i32_930 : BitVec 32 := 0#32
  let v643 : BitVec 1 := Scalar.cmpi .sgt v641 c0_i32_930
  let v644 : BitVec 32 := Scalar.extui v643
  let c0_i32_931 : BitVec 32 := 0#32
  let v645 : BitVec 1 := Scalar.cmpi .slt v641 c0_i32_931
  let v646 : BitVec 32 := Scalar.extui v645
  let v647 : BitVec 32 := Scalar.subi v644 v646
  let c4_i32_929 : BitVec 32 := 4#32
  let c0_i32_932 : BitVec 32 := 0#32
  let v648 : BitVec 1 := Scalar.cmpi .sgt c4_i32_929 c0_i32_932
  let v649 : BitVec 32 := Scalar.extui v648
  let c0_i32_933 : BitVec 32 := 0#32
  let v650 : BitVec 1 := Scalar.cmpi .slt c4_i32_929 c0_i32_933
  let v651 : BitVec 32 := Scalar.extui v650
  let v652 : BitVec 32 := Scalar.subi v649 v651
  let v653 : BitVec 1 := Scalar.cmpi .ne v647 v652
  let v654 : BitVec 32 := Scalar.remsi v641 c4_i32_929
  let c0_i32_934 : BitVec 32 := 0#32
  let v655 : BitVec 1 := Scalar.cmpi .ne v654 c0_i32_934
  let v656 : BitVec 1 := Scalar.andi v653 v655
  let v642 : BitVec 32 := Scalar.divsi v641 c4_i32_929
  let c1_i32_935 : BitVec 32 := 1#32
  let v657 : BitVec 32 := Scalar.subi v642 c1_i32_935
  let v658 : BitVec 32 := Scalar.select v656 v657 v642
  let c0_i32_936 : BitVec 32 := 0#32
  let v659 : BitVec 1 := Scalar.cmpi .eq v658 c0_i32_936
  let v660 : BitVec 32 := Scalar.extui v659
  let c0_i32_940 : BitVec 32 := 0#32
  let v661 : BitVec 1 := Scalar.cmpi .ne v660 c0_i32_940
  v661

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_859 : BitVec 32 := 4#32
  let v549 : BitVec 32 := Scalar.addi v2 c4_i32_859
  let c8_i32_860 : BitVec 32 := 8#32
  let v550 : BitVec 32 := Scalar.remsi v549 c8_i32_860
  let c8_i32_861 : BitVec 32 := 8#32
  let v551 : BitVec 32 := Scalar.muli v550 c8_i32_861
  let c0_i32_1225 : BitVec 32 := 0#32
  ![v551.toNat, 0]
def k0_dev23 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_859 : BitVec 32 := 4#32
  let v549 : BitVec 32 := Scalar.addi v2 c4_i32_859
  let c8_i32_860 : BitVec 32 := 8#32
  let v550 : BitVec 32 := Scalar.remsi v549 c8_i32_860
  let c1_i32_1221 : BitVec 32 := 1#32
  let v1004 : BitVec 32 := Scalar.muli v550 c1_i32_1221
  let v1005 : BitVec 32 := Scalar.addi c0_i32_1222 v1004
  v1005.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_941 : BitVec 32 := 5#32
  let v662 : BitVec 32 := Scalar.addi v2 c5_i32_941
  let c8_i32_942 : BitVec 32 := 8#32
  let v663 : BitVec 32 := Scalar.remsi v662 c8_i32_942
  let c0_i32_944 : BitVec 32 := 0#32
  let v665 : BitVec 1 := Scalar.cmpi .sgt v663 c0_i32_944
  let v666 : BitVec 32 := Scalar.extui v665
  let c0_i32_945 : BitVec 32 := 0#32
  let v667 : BitVec 1 := Scalar.cmpi .slt v663 c0_i32_945
  let v668 : BitVec 32 := Scalar.extui v667
  let v669 : BitVec 32 := Scalar.subi v666 v668
  let c4_i32_943 : BitVec 32 := 4#32
  let c0_i32_946 : BitVec 32 := 0#32
  let v670 : BitVec 1 := Scalar.cmpi .sgt c4_i32_943 c0_i32_946
  let v671 : BitVec 32 := Scalar.extui v670
  let c0_i32_947 : BitVec 32 := 0#32
  let v672 : BitVec 1 := Scalar.cmpi .slt c4_i32_943 c0_i32_947
  let v673 : BitVec 32 := Scalar.extui v672
  let v674 : BitVec 32 := Scalar.subi v671 v673
  let v675 : BitVec 1 := Scalar.cmpi .ne v669 v674
  let v676 : BitVec 32 := Scalar.remsi v663 c4_i32_943
  let c0_i32_948 : BitVec 32 := 0#32
  let v677 : BitVec 1 := Scalar.cmpi .ne v676 c0_i32_948
  let v678 : BitVec 1 := Scalar.andi v675 v677
  let v664 : BitVec 32 := Scalar.divsi v663 c4_i32_943
  let c1_i32_949 : BitVec 32 := 1#32
  let v679 : BitVec 32 := Scalar.subi v664 c1_i32_949
  let v680 : BitVec 32 := Scalar.select v678 v679 v664
  let c0_i32_950 : BitVec 32 := 0#32
  let v681 : BitVec 1 := Scalar.cmpi .eq v680 c0_i32_950
  let v682 : BitVec 32 := Scalar.extui v681
  let c0_i32_954 : BitVec 32 := 0#32
  let v683 : BitVec 1 := Scalar.cmpi .ne v682 c0_i32_954
  v683

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_862 : BitVec 32 := 5#32
  let v552 : BitVec 32 := Scalar.addi v2 c5_i32_862
  let c8_i32_863 : BitVec 32 := 8#32
  let v553 : BitVec 32 := Scalar.remsi v552 c8_i32_863
  let c8_i32_864 : BitVec 32 := 8#32
  let v554 : BitVec 32 := Scalar.muli v553 c8_i32_864
  let c0_i32_1225 : BitVec 32 := 0#32
  ![v554.toNat, 0]
def k0_dev24 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_862 : BitVec 32 := 5#32
  let v552 : BitVec 32 := Scalar.addi v2 c5_i32_862
  let c8_i32_863 : BitVec 32 := 8#32
  let v553 : BitVec 32 := Scalar.remsi v552 c8_i32_863
  let c1_i32_1221 : BitVec 32 := 1#32
  let v1004 : BitVec 32 := Scalar.muli v553 c1_i32_1221
  let v1005 : BitVec 32 := Scalar.addi c0_i32_1222 v1004
  v1005.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_955 : BitVec 32 := 6#32
  let v684 : BitVec 32 := Scalar.addi v2 c6_i32_955
  let c8_i32_956 : BitVec 32 := 8#32
  let v685 : BitVec 32 := Scalar.remsi v684 c8_i32_956
  let c0_i32_958 : BitVec 32 := 0#32
  let v687 : BitVec 1 := Scalar.cmpi .sgt v685 c0_i32_958
  let v688 : BitVec 32 := Scalar.extui v687
  let c0_i32_959 : BitVec 32 := 0#32
  let v689 : BitVec 1 := Scalar.cmpi .slt v685 c0_i32_959
  let v690 : BitVec 32 := Scalar.extui v689
  let v691 : BitVec 32 := Scalar.subi v688 v690
  let c4_i32_957 : BitVec 32 := 4#32
  let c0_i32_960 : BitVec 32 := 0#32
  let v692 : BitVec 1 := Scalar.cmpi .sgt c4_i32_957 c0_i32_960
  let v693 : BitVec 32 := Scalar.extui v692
  let c0_i32_961 : BitVec 32 := 0#32
  let v694 : BitVec 1 := Scalar.cmpi .slt c4_i32_957 c0_i32_961
  let v695 : BitVec 32 := Scalar.extui v694
  let v696 : BitVec 32 := Scalar.subi v693 v695
  let v697 : BitVec 1 := Scalar.cmpi .ne v691 v696
  let v698 : BitVec 32 := Scalar.remsi v685 c4_i32_957
  let c0_i32_962 : BitVec 32 := 0#32
  let v699 : BitVec 1 := Scalar.cmpi .ne v698 c0_i32_962
  let v700 : BitVec 1 := Scalar.andi v697 v699
  let v686 : BitVec 32 := Scalar.divsi v685 c4_i32_957
  let c1_i32_963 : BitVec 32 := 1#32
  let v701 : BitVec 32 := Scalar.subi v686 c1_i32_963
  let v702 : BitVec 32 := Scalar.select v700 v701 v686
  let c0_i32_964 : BitVec 32 := 0#32
  let v703 : BitVec 1 := Scalar.cmpi .eq v702 c0_i32_964
  let v704 : BitVec 32 := Scalar.extui v703
  let c0_i32_968 : BitVec 32 := 0#32
  let v705 : BitVec 1 := Scalar.cmpi .ne v704 c0_i32_968
  v705

def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_865 : BitVec 32 := 6#32
  let v555 : BitVec 32 := Scalar.addi v2 c6_i32_865
  let c8_i32_866 : BitVec 32 := 8#32
  let v556 : BitVec 32 := Scalar.remsi v555 c8_i32_866
  let c8_i32_867 : BitVec 32 := 8#32
  let v557 : BitVec 32 := Scalar.muli v556 c8_i32_867
  let c0_i32_1225 : BitVec 32 := 0#32
  ![v557.toNat, 0]
def k0_dev25 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_865 : BitVec 32 := 6#32
  let v555 : BitVec 32 := Scalar.addi v2 c6_i32_865
  let c8_i32_866 : BitVec 32 := 8#32
  let v556 : BitVec 32 := Scalar.remsi v555 c8_i32_866
  let c1_i32_1221 : BitVec 32 := 1#32
  let v1004 : BitVec 32 := Scalar.muli v556 c1_i32_1221
  let v1005 : BitVec 32 := Scalar.addi c0_i32_1222 v1004
  v1005.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_969 : BitVec 32 := 7#32
  let v706 : BitVec 32 := Scalar.addi v2 c7_i32_969
  let c8_i32_970 : BitVec 32 := 8#32
  let v707 : BitVec 32 := Scalar.remsi v706 c8_i32_970
  let c0_i32_972 : BitVec 32 := 0#32
  let v709 : BitVec 1 := Scalar.cmpi .sgt v707 c0_i32_972
  let v710 : BitVec 32 := Scalar.extui v709
  let c0_i32_973 : BitVec 32 := 0#32
  let v711 : BitVec 1 := Scalar.cmpi .slt v707 c0_i32_973
  let v712 : BitVec 32 := Scalar.extui v711
  let v713 : BitVec 32 := Scalar.subi v710 v712
  let c4_i32_971 : BitVec 32 := 4#32
  let c0_i32_974 : BitVec 32 := 0#32
  let v714 : BitVec 1 := Scalar.cmpi .sgt c4_i32_971 c0_i32_974
  let v715 : BitVec 32 := Scalar.extui v714
  let c0_i32_975 : BitVec 32 := 0#32
  let v716 : BitVec 1 := Scalar.cmpi .slt c4_i32_971 c0_i32_975
  let v717 : BitVec 32 := Scalar.extui v716
  let v718 : BitVec 32 := Scalar.subi v715 v717
  let v719 : BitVec 1 := Scalar.cmpi .ne v713 v718
  let v720 : BitVec 32 := Scalar.remsi v707 c4_i32_971
  let c0_i32_976 : BitVec 32 := 0#32
  let v721 : BitVec 1 := Scalar.cmpi .ne v720 c0_i32_976
  let v722 : BitVec 1 := Scalar.andi v719 v721
  let v708 : BitVec 32 := Scalar.divsi v707 c4_i32_971
  let c1_i32_977 : BitVec 32 := 1#32
  let v723 : BitVec 32 := Scalar.subi v708 c1_i32_977
  let v724 : BitVec 32 := Scalar.select v722 v723 v708
  let c0_i32_978 : BitVec 32 := 0#32
  let v725 : BitVec 1 := Scalar.cmpi .eq v724 c0_i32_978
  let v726 : BitVec 32 := Scalar.extui v725
  let c0_i32_982 : BitVec 32 := 0#32
  let v727 : BitVec 1 := Scalar.cmpi .ne v726 c0_i32_982
  v727

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_868 : BitVec 32 := 7#32
  let v558 : BitVec 32 := Scalar.addi v2 c7_i32_868
  let c8_i32_869 : BitVec 32 := 8#32
  let v559 : BitVec 32 := Scalar.remsi v558 c8_i32_869
  let c8_i32_870 : BitVec 32 := 8#32
  let v560 : BitVec 32 := Scalar.muli v559 c8_i32_870
  let c0_i32_1225 : BitVec 32 := 0#32
  ![v560.toNat, 0]
def k0_dev26 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_868 : BitVec 32 := 7#32
  let v558 : BitVec 32 := Scalar.addi v2 c7_i32_868
  let c8_i32_869 : BitVec 32 := 8#32
  let v559 : BitVec 32 := Scalar.remsi v558 c8_i32_869
  let c1_i32_1221 : BitVec 32 := 1#32
  let v1004 : BitVec 32 := Scalar.muli v559 c1_i32_1221
  let v1005 : BitVec 32 := Scalar.addi c0_i32_1222 v1004
  v1005.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_997 : BitVec 32 := 1#32
  let v741 : BitVec 32 := Scalar.addi v2 c1_i32_997
  let c8_i32_998 : BitVec 32 := 8#32
  let v742 : BitVec 32 := Scalar.remsi v741 c8_i32_998
  let c0_i32_1000 : BitVec 32 := 0#32
  let v744 : BitVec 1 := Scalar.cmpi .sgt v742 c0_i32_1000
  let v745 : BitVec 32 := Scalar.extui v744
  let c0_i32_1001 : BitVec 32 := 0#32
  let v746 : BitVec 1 := Scalar.cmpi .slt v742 c0_i32_1001
  let v747 : BitVec 32 := Scalar.extui v746
  let v748 : BitVec 32 := Scalar.subi v745 v747
  let c4_i32_999 : BitVec 32 := 4#32
  let c0_i32_1002 : BitVec 32 := 0#32
  let v749 : BitVec 1 := Scalar.cmpi .sgt c4_i32_999 c0_i32_1002
  let v750 : BitVec 32 := Scalar.extui v749
  let c0_i32_1003 : BitVec 32 := 0#32
  let v751 : BitVec 1 := Scalar.cmpi .slt c4_i32_999 c0_i32_1003
  let v752 : BitVec 32 := Scalar.extui v751
  let v753 : BitVec 32 := Scalar.subi v750 v752
  let v754 : BitVec 1 := Scalar.cmpi .ne v748 v753
  let v755 : BitVec 32 := Scalar.remsi v742 c4_i32_999
  let c0_i32_1004 : BitVec 32 := 0#32
  let v756 : BitVec 1 := Scalar.cmpi .ne v755 c0_i32_1004
  let v757 : BitVec 1 := Scalar.andi v754 v756
  let v743 : BitVec 32 := Scalar.divsi v742 c4_i32_999
  let c1_i32_1005 : BitVec 32 := 1#32
  let v758 : BitVec 32 := Scalar.subi v743 c1_i32_1005
  let v759 : BitVec 32 := Scalar.select v757 v758 v743
  let c1_i32_1006 : BitVec 32 := 1#32
  let v760 : BitVec 1 := Scalar.cmpi .eq v759 c1_i32_1006
  let v761 : BitVec 32 := Scalar.extui v760
  let c0_i32_1010 : BitVec 32 := 0#32
  let v762 : BitVec 1 := Scalar.cmpi .ne v761 c0_i32_1010
  v762

def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_850 : BitVec 32 := 1#32
  let v540 : BitVec 32 := Scalar.addi v2 c1_i32_850
  let c8_i32_851 : BitVec 32 := 8#32
  let v541 : BitVec 32 := Scalar.remsi v540 c8_i32_851
  let c8_i32_852 : BitVec 32 := 8#32
  let v542 : BitVec 32 := Scalar.muli v541 c8_i32_852
  let c0_i32_1225 : BitVec 32 := 0#32
  ![v542.toNat, 0]
def k0_dev27 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_850 : BitVec 32 := 1#32
  let v540 : BitVec 32 := Scalar.addi v2 c1_i32_850
  let c8_i32_851 : BitVec 32 := 8#32
  let v541 : BitVec 32 := Scalar.remsi v540 c8_i32_851
  let c1_i32_1221 : BitVec 32 := 1#32
  let v1004 : BitVec 32 := Scalar.muli v541 c1_i32_1221
  let v1005 : BitVec 32 := Scalar.addi c0_i32_1222 v1004
  v1005.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1011 : BitVec 32 := 2#32
  let v763 : BitVec 32 := Scalar.addi v2 c2_i32_1011
  let c8_i32_1012 : BitVec 32 := 8#32
  let v764 : BitVec 32 := Scalar.remsi v763 c8_i32_1012
  let c0_i32_1014 : BitVec 32 := 0#32
  let v766 : BitVec 1 := Scalar.cmpi .sgt v764 c0_i32_1014
  let v767 : BitVec 32 := Scalar.extui v766
  let c0_i32_1015 : BitVec 32 := 0#32
  let v768 : BitVec 1 := Scalar.cmpi .slt v764 c0_i32_1015
  let v769 : BitVec 32 := Scalar.extui v768
  let v770 : BitVec 32 := Scalar.subi v767 v769
  let c4_i32_1013 : BitVec 32 := 4#32
  let c0_i32_1016 : BitVec 32 := 0#32
  let v771 : BitVec 1 := Scalar.cmpi .sgt c4_i32_1013 c0_i32_1016
  let v772 : BitVec 32 := Scalar.extui v771
  let c0_i32_1017 : BitVec 32 := 0#32
  let v773 : BitVec 1 := Scalar.cmpi .slt c4_i32_1013 c0_i32_1017
  let v774 : BitVec 32 := Scalar.extui v773
  let v775 : BitVec 32 := Scalar.subi v772 v774
  let v776 : BitVec 1 := Scalar.cmpi .ne v770 v775
  let v777 : BitVec 32 := Scalar.remsi v764 c4_i32_1013
  let c0_i32_1018 : BitVec 32 := 0#32
  let v778 : BitVec 1 := Scalar.cmpi .ne v777 c0_i32_1018
  let v779 : BitVec 1 := Scalar.andi v776 v778
  let v765 : BitVec 32 := Scalar.divsi v764 c4_i32_1013
  let c1_i32_1019 : BitVec 32 := 1#32
  let v780 : BitVec 32 := Scalar.subi v765 c1_i32_1019
  let v781 : BitVec 32 := Scalar.select v779 v780 v765
  let c1_i32_1020 : BitVec 32 := 1#32
  let v782 : BitVec 1 := Scalar.cmpi .eq v781 c1_i32_1020
  let v783 : BitVec 32 := Scalar.extui v782
  let c0_i32_1024 : BitVec 32 := 0#32
  let v784 : BitVec 1 := Scalar.cmpi .ne v783 c0_i32_1024
  v784

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_853 : BitVec 32 := 2#32
  let v543 : BitVec 32 := Scalar.addi v2 c2_i32_853
  let c8_i32_854 : BitVec 32 := 8#32
  let v544 : BitVec 32 := Scalar.remsi v543 c8_i32_854
  let c8_i32_855 : BitVec 32 := 8#32
  let v545 : BitVec 32 := Scalar.muli v544 c8_i32_855
  let c0_i32_1225 : BitVec 32 := 0#32
  ![v545.toNat, 0]
def k0_dev28 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_853 : BitVec 32 := 2#32
  let v543 : BitVec 32 := Scalar.addi v2 c2_i32_853
  let c8_i32_854 : BitVec 32 := 8#32
  let v544 : BitVec 32 := Scalar.remsi v543 c8_i32_854
  let c1_i32_1221 : BitVec 32 := 1#32
  let v1004 : BitVec 32 := Scalar.muli v544 c1_i32_1221
  let v1005 : BitVec 32 := Scalar.addi c0_i32_1222 v1004
  v1005.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1025 : BitVec 32 := 3#32
  let v785 : BitVec 32 := Scalar.addi v2 c3_i32_1025
  let c8_i32_1026 : BitVec 32 := 8#32
  let v786 : BitVec 32 := Scalar.remsi v785 c8_i32_1026
  let c0_i32_1028 : BitVec 32 := 0#32
  let v788 : BitVec 1 := Scalar.cmpi .sgt v786 c0_i32_1028
  let v789 : BitVec 32 := Scalar.extui v788
  let c0_i32_1029 : BitVec 32 := 0#32
  let v790 : BitVec 1 := Scalar.cmpi .slt v786 c0_i32_1029
  let v791 : BitVec 32 := Scalar.extui v790
  let v792 : BitVec 32 := Scalar.subi v789 v791
  let c4_i32_1027 : BitVec 32 := 4#32
  let c0_i32_1030 : BitVec 32 := 0#32
  let v793 : BitVec 1 := Scalar.cmpi .sgt c4_i32_1027 c0_i32_1030
  let v794 : BitVec 32 := Scalar.extui v793
  let c0_i32_1031 : BitVec 32 := 0#32
  let v795 : BitVec 1 := Scalar.cmpi .slt c4_i32_1027 c0_i32_1031
  let v796 : BitVec 32 := Scalar.extui v795
  let v797 : BitVec 32 := Scalar.subi v794 v796
  let v798 : BitVec 1 := Scalar.cmpi .ne v792 v797
  let v799 : BitVec 32 := Scalar.remsi v786 c4_i32_1027
  let c0_i32_1032 : BitVec 32 := 0#32
  let v800 : BitVec 1 := Scalar.cmpi .ne v799 c0_i32_1032
  let v801 : BitVec 1 := Scalar.andi v798 v800
  let v787 : BitVec 32 := Scalar.divsi v786 c4_i32_1027
  let c1_i32_1033 : BitVec 32 := 1#32
  let v802 : BitVec 32 := Scalar.subi v787 c1_i32_1033
  let v803 : BitVec 32 := Scalar.select v801 v802 v787
  let c1_i32_1034 : BitVec 32 := 1#32
  let v804 : BitVec 1 := Scalar.cmpi .eq v803 c1_i32_1034
  let v805 : BitVec 32 := Scalar.extui v804
  let c0_i32_1038 : BitVec 32 := 0#32
  let v806 : BitVec 1 := Scalar.cmpi .ne v805 c0_i32_1038
  v806

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_856 : BitVec 32 := 3#32
  let v546 : BitVec 32 := Scalar.addi v2 c3_i32_856
  let c8_i32_857 : BitVec 32 := 8#32
  let v547 : BitVec 32 := Scalar.remsi v546 c8_i32_857
  let c8_i32_858 : BitVec 32 := 8#32
  let v548 : BitVec 32 := Scalar.muli v547 c8_i32_858
  let c0_i32_1225 : BitVec 32 := 0#32
  ![v548.toNat, 0]
def k0_dev29 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_856 : BitVec 32 := 3#32
  let v546 : BitVec 32 := Scalar.addi v2 c3_i32_856
  let c8_i32_857 : BitVec 32 := 8#32
  let v547 : BitVec 32 := Scalar.remsi v546 c8_i32_857
  let c1_i32_1221 : BitVec 32 := 1#32
  let v1004 : BitVec 32 := Scalar.muli v547 c1_i32_1221
  let v1005 : BitVec 32 := Scalar.addi c0_i32_1222 v1004
  v1005.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1039 : BitVec 32 := 4#32
  let v807 : BitVec 32 := Scalar.addi v2 c4_i32_1039
  let c8_i32_1040 : BitVec 32 := 8#32
  let v808 : BitVec 32 := Scalar.remsi v807 c8_i32_1040
  let c0_i32_1042 : BitVec 32 := 0#32
  let v810 : BitVec 1 := Scalar.cmpi .sgt v808 c0_i32_1042
  let v811 : BitVec 32 := Scalar.extui v810
  let c0_i32_1043 : BitVec 32 := 0#32
  let v812 : BitVec 1 := Scalar.cmpi .slt v808 c0_i32_1043
  let v813 : BitVec 32 := Scalar.extui v812
  let v814 : BitVec 32 := Scalar.subi v811 v813
  let c4_i32_1041 : BitVec 32 := 4#32
  let c0_i32_1044 : BitVec 32 := 0#32
  let v815 : BitVec 1 := Scalar.cmpi .sgt c4_i32_1041 c0_i32_1044
  let v816 : BitVec 32 := Scalar.extui v815
  let c0_i32_1045 : BitVec 32 := 0#32
  let v817 : BitVec 1 := Scalar.cmpi .slt c4_i32_1041 c0_i32_1045
  let v818 : BitVec 32 := Scalar.extui v817
  let v819 : BitVec 32 := Scalar.subi v816 v818
  let v820 : BitVec 1 := Scalar.cmpi .ne v814 v819
  let v821 : BitVec 32 := Scalar.remsi v808 c4_i32_1041
  let c0_i32_1046 : BitVec 32 := 0#32
  let v822 : BitVec 1 := Scalar.cmpi .ne v821 c0_i32_1046
  let v823 : BitVec 1 := Scalar.andi v820 v822
  let v809 : BitVec 32 := Scalar.divsi v808 c4_i32_1041
  let c1_i32_1047 : BitVec 32 := 1#32
  let v824 : BitVec 32 := Scalar.subi v809 c1_i32_1047
  let v825 : BitVec 32 := Scalar.select v823 v824 v809
  let c1_i32_1048 : BitVec 32 := 1#32
  let v826 : BitVec 1 := Scalar.cmpi .eq v825 c1_i32_1048
  let v827 : BitVec 32 := Scalar.extui v826
  let c0_i32_1052 : BitVec 32 := 0#32
  let v828 : BitVec 1 := Scalar.cmpi .ne v827 c0_i32_1052
  v828

def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_859 : BitVec 32 := 4#32
  let v549 : BitVec 32 := Scalar.addi v2 c4_i32_859
  let c8_i32_860 : BitVec 32 := 8#32
  let v550 : BitVec 32 := Scalar.remsi v549 c8_i32_860
  let c8_i32_861 : BitVec 32 := 8#32
  let v551 : BitVec 32 := Scalar.muli v550 c8_i32_861
  let c0_i32_1225 : BitVec 32 := 0#32
  ![v551.toNat, 0]
def k0_dev30 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_859 : BitVec 32 := 4#32
  let v549 : BitVec 32 := Scalar.addi v2 c4_i32_859
  let c8_i32_860 : BitVec 32 := 8#32
  let v550 : BitVec 32 := Scalar.remsi v549 c8_i32_860
  let c1_i32_1221 : BitVec 32 := 1#32
  let v1004 : BitVec 32 := Scalar.muli v550 c1_i32_1221
  let v1005 : BitVec 32 := Scalar.addi c0_i32_1222 v1004
  v1005.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1053 : BitVec 32 := 5#32
  let v829 : BitVec 32 := Scalar.addi v2 c5_i32_1053
  let c8_i32_1054 : BitVec 32 := 8#32
  let v830 : BitVec 32 := Scalar.remsi v829 c8_i32_1054
  let c0_i32_1056 : BitVec 32 := 0#32
  let v832 : BitVec 1 := Scalar.cmpi .sgt v830 c0_i32_1056
  let v833 : BitVec 32 := Scalar.extui v832
  let c0_i32_1057 : BitVec 32 := 0#32
  let v834 : BitVec 1 := Scalar.cmpi .slt v830 c0_i32_1057
  let v835 : BitVec 32 := Scalar.extui v834
  let v836 : BitVec 32 := Scalar.subi v833 v835
  let c4_i32_1055 : BitVec 32 := 4#32
  let c0_i32_1058 : BitVec 32 := 0#32
  let v837 : BitVec 1 := Scalar.cmpi .sgt c4_i32_1055 c0_i32_1058
  let v838 : BitVec 32 := Scalar.extui v837
  let c0_i32_1059 : BitVec 32 := 0#32
  let v839 : BitVec 1 := Scalar.cmpi .slt c4_i32_1055 c0_i32_1059
  let v840 : BitVec 32 := Scalar.extui v839
  let v841 : BitVec 32 := Scalar.subi v838 v840
  let v842 : BitVec 1 := Scalar.cmpi .ne v836 v841
  let v843 : BitVec 32 := Scalar.remsi v830 c4_i32_1055
  let c0_i32_1060 : BitVec 32 := 0#32
  let v844 : BitVec 1 := Scalar.cmpi .ne v843 c0_i32_1060
  let v845 : BitVec 1 := Scalar.andi v842 v844
  let v831 : BitVec 32 := Scalar.divsi v830 c4_i32_1055
  let c1_i32_1061 : BitVec 32 := 1#32
  let v846 : BitVec 32 := Scalar.subi v831 c1_i32_1061
  let v847 : BitVec 32 := Scalar.select v845 v846 v831
  let c1_i32_1062 : BitVec 32 := 1#32
  let v848 : BitVec 1 := Scalar.cmpi .eq v847 c1_i32_1062
  let v849 : BitVec 32 := Scalar.extui v848
  let c0_i32_1066 : BitVec 32 := 0#32
  let v850 : BitVec 1 := Scalar.cmpi .ne v849 c0_i32_1066
  v850

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_862 : BitVec 32 := 5#32
  let v552 : BitVec 32 := Scalar.addi v2 c5_i32_862
  let c8_i32_863 : BitVec 32 := 8#32
  let v553 : BitVec 32 := Scalar.remsi v552 c8_i32_863
  let c8_i32_864 : BitVec 32 := 8#32
  let v554 : BitVec 32 := Scalar.muli v553 c8_i32_864
  let c0_i32_1225 : BitVec 32 := 0#32
  ![v554.toNat, 0]
def k0_dev31 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_862 : BitVec 32 := 5#32
  let v552 : BitVec 32 := Scalar.addi v2 c5_i32_862
  let c8_i32_863 : BitVec 32 := 8#32
  let v553 : BitVec 32 := Scalar.remsi v552 c8_i32_863
  let c1_i32_1221 : BitVec 32 := 1#32
  let v1004 : BitVec 32 := Scalar.muli v553 c1_i32_1221
  let v1005 : BitVec 32 := Scalar.addi c0_i32_1222 v1004
  v1005.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1067 : BitVec 32 := 6#32
  let v851 : BitVec 32 := Scalar.addi v2 c6_i32_1067
  let c8_i32_1068 : BitVec 32 := 8#32
  let v852 : BitVec 32 := Scalar.remsi v851 c8_i32_1068
  let c0_i32_1070 : BitVec 32 := 0#32
  let v854 : BitVec 1 := Scalar.cmpi .sgt v852 c0_i32_1070
  let v855 : BitVec 32 := Scalar.extui v854
  let c0_i32_1071 : BitVec 32 := 0#32
  let v856 : BitVec 1 := Scalar.cmpi .slt v852 c0_i32_1071
  let v857 : BitVec 32 := Scalar.extui v856
  let v858 : BitVec 32 := Scalar.subi v855 v857
  let c4_i32_1069 : BitVec 32 := 4#32
  let c0_i32_1072 : BitVec 32 := 0#32
  let v859 : BitVec 1 := Scalar.cmpi .sgt c4_i32_1069 c0_i32_1072
  let v860 : BitVec 32 := Scalar.extui v859
  let c0_i32_1073 : BitVec 32 := 0#32
  let v861 : BitVec 1 := Scalar.cmpi .slt c4_i32_1069 c0_i32_1073
  let v862 : BitVec 32 := Scalar.extui v861
  let v863 : BitVec 32 := Scalar.subi v860 v862
  let v864 : BitVec 1 := Scalar.cmpi .ne v858 v863
  let v865 : BitVec 32 := Scalar.remsi v852 c4_i32_1069
  let c0_i32_1074 : BitVec 32 := 0#32
  let v866 : BitVec 1 := Scalar.cmpi .ne v865 c0_i32_1074
  let v867 : BitVec 1 := Scalar.andi v864 v866
  let v853 : BitVec 32 := Scalar.divsi v852 c4_i32_1069
  let c1_i32_1075 : BitVec 32 := 1#32
  let v868 : BitVec 32 := Scalar.subi v853 c1_i32_1075
  let v869 : BitVec 32 := Scalar.select v867 v868 v853
  let c1_i32_1076 : BitVec 32 := 1#32
  let v870 : BitVec 1 := Scalar.cmpi .eq v869 c1_i32_1076
  let v871 : BitVec 32 := Scalar.extui v870
  let c0_i32_1080 : BitVec 32 := 0#32
  let v872 : BitVec 1 := Scalar.cmpi .ne v871 c0_i32_1080
  v872

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_865 : BitVec 32 := 6#32
  let v555 : BitVec 32 := Scalar.addi v2 c6_i32_865
  let c8_i32_866 : BitVec 32 := 8#32
  let v556 : BitVec 32 := Scalar.remsi v555 c8_i32_866
  let c8_i32_867 : BitVec 32 := 8#32
  let v557 : BitVec 32 := Scalar.muli v556 c8_i32_867
  let c0_i32_1225 : BitVec 32 := 0#32
  ![v557.toNat, 0]
def k0_dev32 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_865 : BitVec 32 := 6#32
  let v555 : BitVec 32 := Scalar.addi v2 c6_i32_865
  let c8_i32_866 : BitVec 32 := 8#32
  let v556 : BitVec 32 := Scalar.remsi v555 c8_i32_866
  let c1_i32_1221 : BitVec 32 := 1#32
  let v1004 : BitVec 32 := Scalar.muli v556 c1_i32_1221
  let v1005 : BitVec 32 := Scalar.addi c0_i32_1222 v1004
  v1005.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1081 : BitVec 32 := 7#32
  let v873 : BitVec 32 := Scalar.addi v2 c7_i32_1081
  let c8_i32_1082 : BitVec 32 := 8#32
  let v874 : BitVec 32 := Scalar.remsi v873 c8_i32_1082
  let c0_i32_1084 : BitVec 32 := 0#32
  let v876 : BitVec 1 := Scalar.cmpi .sgt v874 c0_i32_1084
  let v877 : BitVec 32 := Scalar.extui v876
  let c0_i32_1085 : BitVec 32 := 0#32
  let v878 : BitVec 1 := Scalar.cmpi .slt v874 c0_i32_1085
  let v879 : BitVec 32 := Scalar.extui v878
  let v880 : BitVec 32 := Scalar.subi v877 v879
  let c4_i32_1083 : BitVec 32 := 4#32
  let c0_i32_1086 : BitVec 32 := 0#32
  let v881 : BitVec 1 := Scalar.cmpi .sgt c4_i32_1083 c0_i32_1086
  let v882 : BitVec 32 := Scalar.extui v881
  let c0_i32_1087 : BitVec 32 := 0#32
  let v883 : BitVec 1 := Scalar.cmpi .slt c4_i32_1083 c0_i32_1087
  let v884 : BitVec 32 := Scalar.extui v883
  let v885 : BitVec 32 := Scalar.subi v882 v884
  let v886 : BitVec 1 := Scalar.cmpi .ne v880 v885
  let v887 : BitVec 32 := Scalar.remsi v874 c4_i32_1083
  let c0_i32_1088 : BitVec 32 := 0#32
  let v888 : BitVec 1 := Scalar.cmpi .ne v887 c0_i32_1088
  let v889 : BitVec 1 := Scalar.andi v886 v888
  let v875 : BitVec 32 := Scalar.divsi v874 c4_i32_1083
  let c1_i32_1089 : BitVec 32 := 1#32
  let v890 : BitVec 32 := Scalar.subi v875 c1_i32_1089
  let v891 : BitVec 32 := Scalar.select v889 v890 v875
  let c1_i32_1090 : BitVec 32 := 1#32
  let v892 : BitVec 1 := Scalar.cmpi .eq v891 c1_i32_1090
  let v893 : BitVec 32 := Scalar.extui v892
  let c0_i32_1094 : BitVec 32 := 0#32
  let v894 : BitVec 1 := Scalar.cmpi .ne v893 c0_i32_1094
  v894

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_868 : BitVec 32 := 7#32
  let v558 : BitVec 32 := Scalar.addi v2 c7_i32_868
  let c8_i32_869 : BitVec 32 := 8#32
  let v559 : BitVec 32 := Scalar.remsi v558 c8_i32_869
  let c8_i32_870 : BitVec 32 := 8#32
  let v560 : BitVec 32 := Scalar.muli v559 c8_i32_870
  let c0_i32_1225 : BitVec 32 := 0#32
  ![v560.toNat, 0]
def k0_dev33 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_868 : BitVec 32 := 7#32
  let v558 : BitVec 32 := Scalar.addi v2 c7_i32_868
  let c8_i32_869 : BitVec 32 := 8#32
  let v559 : BitVec 32 := Scalar.remsi v558 c8_i32_869
  let c1_i32_1221 : BitVec 32 := 1#32
  let v1004 : BitVec 32 := Scalar.muli v559 c1_i32_1221
  let v1005 : BitVec 32 := Scalar.addi c0_i32_1222 v1004
  v1005.toNat
def k0_off15 (d0 : Dev nD) (c1_i32_850 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.addi v2 c1_i32_850
  let c8_i32_851 : BitVec 32 := 8#32
  let v541 : BitVec 32 := Scalar.remsi v540 c8_i32_851
  let c8_i32_852 : BitVec 32 := 8#32
  let v542 : BitVec 32 := Scalar.muli v541 c8_i32_852
  let c0_i32_1099 : BitVec 32 := 0#32
  ![v542.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1200 : BitVec 32 := 8#32
  let v979 : BitVec 32 := Scalar.muli v2 c8_i32_1200
  let v980 : Index := Scalar.indexCast v979
  let c0_1201 : Index := 0#32
  ![v980.toNat, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x16384 : Shape := ⟨2, ![1024, 16384]⟩
abbrev S16384x1024 : Shape := ⟨2, ![16384, 1024]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x16384, .f32⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S1024x16384, .f32⟩
  | .hbm, ⟨6, _⟩ => ⟨S16384x1024, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x1024, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x1024, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Steps.lean ====
/- The kernel body of `KernelIdeal` as a program of named steps — load a layer's weights, one product, start one
   exchange of the butterfly, finish it, start one piece of the reduce-scatter, and so on, each over its place
   (layer, stage, block of rows) — and the equation between that program and the printed body. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.Sem

variable {F : FTy → Type} [FloatOps F]

/-! ## The buffers and their pieces -/

abbrev xM : Memref sig .tc .vmem S64x1024 .f32 := Memref.whole cc0_stg0_0
abbrev outM : Memref sig .tc .vmem S8x1024 .f32 := Memref.whole cc0_stg1_0
abbrev winM : Memref sig .tc .vmem S2x1024x2048 .f32 := Memref.whole cc0_scratch0
abbrev woutM : Memref sig .tc .vmem S2x2048x1024 .f32 := Memref.whole cc0_scratch1
abbrev accM : Memref sig .tc .vmem S2x32x1024 .f32 := Memref.whole cc0_scratch2
abbrev flatM : Memref sig .tc .vmem S64x1024 .f32 := Memref.whole cc0_scratch3
abbrev bflyM : Memref sig .tc .vmem S2x3x2x32x1024 .f32 := Memref.whole cc0_scratch4
abbrev rsM : Memref sig .tc .vmem S7x8x1024 .f32 := Memref.whole cc0_scratch5

theorem inbWin : ∀ (b : Fin 2) a, (![b.val, 0, 0] : Fin 3 → ℕ) a + S1x1024x2048.size a ≤ S2x1024x2048.size a := by decide
theorem inbWout : ∀ (b : Fin 2) a, (![b.val, 0, 0] : Fin 3 → ℕ) a + S1x2048x1024.size a ≤ S2x2048x1024.size a := by decide
theorem inbAcc : ∀ (b : Fin 2) a, (![b.val, 0, 0] : Fin 3 → ℕ) a + S1x32x1024.size a ≤ S2x32x1024.size a := by decide
theorem inbBfly : ∀ (l : Fin 2) (s : Fin 3) (b : Fin 2) a,
    (![l.val, s.val, b.val, 0, 0] : Fin 5 → ℕ) a + S1x1x1x32x1024.size a ≤ S2x3x2x32x1024.size a := by decide
theorem inbRs : ∀ (j : Fin 7) a, (![j.val, 0, 0] : Fin 3 → ℕ) a + S1x8x1024.size a ≤ S7x8x1024.size a := by decide
theorem inbHalf : ∀ (b : Fin 2) a, (![32 * b.val, 0] : Fin 2 → ℕ) a + S32x1024.size a ≤ S64x1024.size a := by decide
theorem inbSemW : ∀ (i : Fin 6) a, (![i.val] : Fin 1 → ℕ) a + S1.size a ≤ S6.size a := by decide
theorem inbSemB : ∀ (l : Fin 2) (s : Fin 3) (b : Fin 2) a,
    (![l.val, s.val, b.val] : Fin 3 → ℕ) a + S1x1x1.size a ≤ S2x3x2.size a := by decide
theorem inbSemR : ∀ (j : Fin 7) a, (![j.val] : Fin 1 → ℕ) a + S1.size a ≤ S7.size a := by decide

/-- Slot `b` of the two the input weights are loaded into, -/
abbrev rWin (b : Fin 2) : Rect S2x1024x2048 := Rect.unit (s := S2x1024x2048) ![b.val, 0, 0] S1x1024x2048.size (inbWin b)
abbrev winB (b : Fin 2) : Memref sig .tc .vmem S1024x2048 .f32 :=
  (winM.slice (rWin b) (fun _ => rfl)).squeeze S1024x2048 squeezes_S1x1024x2048_S1024x2048
/-- and of the two the output weights are. -/
abbrev rWout (b : Fin 2) : Rect S2x2048x1024 := Rect.unit (s := S2x2048x1024) ![b.val, 0, 0] S1x2048x1024.size (inbWout b)
abbrev woutB (b : Fin 2) : Memref sig .tc .vmem S2048x1024 .f32 :=
  (woutM.slice (rWout b) (fun _ => rfl)).squeeze S2048x1024 squeezes_S1x2048x1024_S2048x1024
/-- Block `b` of the running sums. -/
abbrev rAcc (b : Fin 2) : Rect S2x32x1024 := Rect.unit (s := S2x32x1024) ![b.val, 0, 0] S1x32x1024.size (inbAcc b)
abbrev accB (b : Fin 2) : Memref sig .tc .vmem S32x1024 .f32 :=
  (accM.slice (rAcc b) (fun _ => rfl)).squeeze S32x1024 squeezes_S1x32x1024_S32x1024
/-- The landing slot of layer `l`, stage `s`, block `b`. -/
abbrev rBfly (l : Fin 2) (s : Fin 3) (b : Fin 2) : Rect S2x3x2x32x1024 :=
  Rect.unit (s := S2x3x2x32x1024) ![l.val, s.val, b.val, 0, 0] S1x1x1x32x1024.size (inbBfly l s b)
abbrev bflyB (l : Fin 2) (s : Fin 3) (b : Fin 2) : Memref sig .tc .vmem S32x1024 .f32 :=
  (bflyM.slice (rBfly l s b) (fun _ => rfl)).squeeze S32x1024 squeezes_S1x1x1x32x1024_S32x1024
/-- The landing slot `j` of the reduce-scatter. -/
abbrev rRs (j : Fin 7) : Rect S7x8x1024 := Rect.unit (s := S7x8x1024) ![j.val, 0, 0] S1x8x1024.size (inbRs j)
abbrev rsB (j : Fin 7) : Memref sig .tc .vmem S8x1024 .f32 :=
  (rsM.slice (rRs j) (fun _ => rfl)).squeeze S8x1024 squeezes_S1x8x1024_S8x1024
/-- Rows `32 b` to `32 b + 31`. -/
abbrev rHalf (b : Fin 2) : Rect S64x1024 := Rect.unit (s := S64x1024) ![32 * b.val, 0] S32x1024.size (inbHalf b)
/-- Eight rows of the last product, at an offset. -/
abbrev rowsAt (off : Fin 2 → ℕ) (h : ∀ a, off a + S8x1024.size a ≤ S64x1024.size a) : Memref sig .tc .vmem S8x1024 .f32 :=
  flatM.slice (Rect.unit (s := S64x1024) off S8x1024.size h) (fun _ => rfl)

/-- The semaphores: of the loads, -/
abbrev semW (i : Fin 6) : DmaSem sig :=
  (((cc0_scratch6 : DmaSems sig S6).slice (Rect.unit (s := S6) ![i.val] S1.size (inbSemW i))).squeeze S_ squeezes_S1_S_).sem
/-- of the exchanges, on the sending side -/
abbrev bsSem (l : Fin 2) (s : Fin 3) (b : Fin 2) : DmaSem sig :=
  (((cc0_scratch7 : DmaSems sig S2x3x2).slice (Rect.unit (s := S2x3x2) ![l.val, s.val, b.val] S1x1x1.size (inbSemB l s b))).squeeze S_ squeezes_S1x1x1_S_).sem
/-- and on the receiving side, -/
abbrev brSem (l : Fin 2) (s : Fin 3) (b : Fin 2) : DmaSem sig :=
  (((cc0_scratch8 : DmaSems sig S2x3x2).slice (Rect.unit (s := S2x3x2) ![l.val, s.val, b.val] S1x1x1.size (inbSemB l s b))).squeeze S_ squeezes_S1x1x1_S_).sem
/-- of the reduce-scatter, on the sending side -/
abbrev rsSem (j : Fin 7) : DmaSem sig :=
  (((cc0_scratch9 : DmaSems sig S7).slice (Rect.unit (s := S7) ![j.val] S1.size (inbSemR j))).squeeze S_ squeezes_S1_S_).sem
/-- and on the receiving side. -/
abbrev rrSem (j : Fin 7) : DmaSem sig :=
  (((cc0_scratch10 : DmaSems sig S7).slice (Rect.unit (s := S7) ![j.val] S1.size (inbSemR j))).squeeze S_ squeezes_S1_S_).sem
/-- The barrier semaphore. -/
abbrev barSem : Sem sig := (SemArray.scalar (sig.barrier 0 rfl) : Sems sig S_).sem

/-! ## The steps -/

/-- Load a layer's weights into slot `b`. -/
def loadW (win : Memref sig .tc .hbm S1024x2048 .f32) (hwin : win.IsWhole) (wout : Memref sig .tc .hbm S2048x1024 .f32)
    (hwout : wout.IsWhole) (i i' : Fin 6) (b : Fin 2) : Prog (TpuEff nD τ sig (Elt F) Λ₀ .tc) PUnit := do
  Prog.lift (.enqueueDma win (.here (winB b)) (.dma (semW i)) hwin.wordExact ((View.wordExact_bits rfl).reshape _ _) ⟨Or.inl rfl, trivial⟩)
  Prog.lift (.enqueueDma wout (.here (woutB b)) (.dma (semW i')) hwout.wordExact ((View.wordExact_bits rfl).reshape _ _) ⟨Or.inl rfl, trivial⟩)

/-- Wait for them. -/
def waitW (win : Memref sig .tc .hbm S1024x2048 .f32) (hwin : win.IsWhole) (wout : Memref sig .tc .hbm S2048x1024 .f32)
    (hwout : wout.IsWhole) (i i' : Fin 6) (b : Fin 2) : Prog (TpuEff nD τ sig (Elt F) Λ₀ .tc) PUnit := do
  Prog.lift (.waitDma2 (semW i) win (winB b) hwin.wordExact ((View.wordExact_bits rfl).reshape _ _))
  Prog.lift (.waitDma2 (semW i') wout (woutB b) hwout.wordExact ((View.wordExact_bits rfl).reshape _ _))

/-- Signal a peer. -/
def signal (p : Dev nD) : Prog (TpuEff nD τ sig (Elt F) Λ₀ .tc) PUnit := semSignalWord p barSem 1#32

/-- Read a block of the running sums, of the input weights, of the output weights. -/
def ldAcc (b : Fin 2) : Prog (TpuEff nD τ sig (Elt F) Λ₀ .tc) (Vec F S1x32x1024 .f32) := Prog.lift (.load accM (rAcc b).toLoadRect (View.loadsAt_vmem h_S1x32x1024))
def ldWin (b : Fin 2) : Prog (TpuEff nD τ sig (Elt F) Λ₀ .tc) (Vec F S1x1024x2048 .f32) := Prog.lift (.load winM (rWin b).toLoadRect (View.loadsAt_vmem h_S1x1024x2048))
def ldWout (b : Fin 2) : Prog (TpuEff nD τ sig (Elt F) Λ₀ .tc) (Vec F S1x2048x1024 .f32) := Prog.lift (.load woutM (rWout b).toLoadRect (View.loadsAt_vmem h_S1x2048x1024))
/-- Write a block of the running sums. -/
def stAcc (b : Fin 2) (v : Vec F S1x32x1024 .f32) : Prog (TpuEff nD τ sig (Elt F) Λ₀ .tc) PUnit :=
  Prog.lift (.store accM (rAcc b) v Finset.univ (View.stores_vmem_bits_univ h_S1x32x1024 rfl) (.inl rfl))

/-- A block's product of layer 0, off the input, -/
def mul0 (b : Fin 2) : Prog (TpuEff nD τ sig (Elt F) Λ₀ .tc) PUnit := do
  let x ← Prog.lift (.load xM (rHalf b).toLoadRect (View.loadsAt_vmem h_S32x1024))
  let wi ← ldWin 0
  let wo ← ldWout 0
  let _ ← ldAcc b
  stAcc b (k0_pay2 x wi wo)

/-- of layer 1, off the running sums, -/
def mul1 (b : Fin 2) : Prog (TpuEff nD τ sig (Elt F) Λ₀ .tc) PUnit := do
  let x ← ldAcc b
  let wi ← ldWin 1
  let wo ← ldWout 1
  let _ ← ldAcc b
  stAcc b (k0_pay13 x wi wo)

/-- and of layer 2, into the last product's buffer. -/
def mul2 (b : Fin 2) : Prog (TpuEff nD τ sig (Elt F) Λ₀ .tc) PUnit := do
  let x ← ldAcc b
  let wi ← ldWin 0
  let wo ← ldWout 0
  let _ ← Prog.lift (.load flatM (rHalf b).toLoadRect (View.loadsAt_vmem h_S32x1024))
  Prog.lift (.store flatM (rHalf b) (k0_pay21 x wi wo) Finset.univ (View.stores_vmem_bits_univ h_S32x1024 rfl) (.inl rfl))

/-- Start one exchange with `p`. -/
def bstart (p : Dev nD) (l : Fin 2) (s : Fin 3) (b : Fin 2) : Prog (TpuEff nD τ sig (Elt F) Λ₀ .tc) PUnit :=
  Prog.lift (.enqueueDma (accB b) (.remote (Dev.tc p) (bflyB l s b) (.dma (bsSem l s b))) (.dma (brSem l s b))
    ((View.wordExact_bits rfl).reshape _ _) ((View.wordExact_bits rfl).reshape _ _) ⟨⟨rfl, Or.inl rfl⟩, trivial⟩)

/-- Finish one exchange: both waits, then add what came to the running sum. -/
def badd (l : Fin 2) (s : Fin 3) (b : Fin 2) : Prog (TpuEff nD τ sig (Elt F) Λ₀ .tc) PUnit := do
  Prog.lift (.waitDma2 (bsSem l s b) (bflyB l s b) (accB b) ((View.wordExact_bits rfl).reshape _ _) ((View.wordExact_bits rfl).reshape _ _))
  Prog.lift (.waitDma2 (brSem l s b) (accB b) (bflyB l s b) ((View.wordExact_bits rfl).reshape _ _) ((View.wordExact_bits rfl).reshape _ _))
  let v ← ldAcc b
  let w ← Prog.lift (.load bflyM (rBfly l s b).toLoadRect (View.loadsAt_vmem h_S1x1x1x32x1024))
  let _ ← ldAcc b
  stAcc b (k0_pay4 v w)

/-- One layer of the butterfly: both blocks' products, then three stages of exchanges. -/
def layer (l : Fin 2) (mul : Fin 2 → Prog (TpuEff nD τ sig (Elt F) Λ₀ .tc) PUnit) (p : Fin 3 → Fin 2 → Dev nD) : Prog (TpuEff nD τ sig (Elt F) Λ₀ .tc) PUnit := do
  mul 0; bstart (p 0 0) l 0 0
  mul 1; bstart (p 0 1) l 0 1
  badd l 0 0; bstart (p 1 0) l 1 0
  badd l 0 1; bstart (p 1 1) l 1 1
  badd l 1 0; bstart (p 2 0) l 2 0
  badd l 1 1; bstart (p 2 1) l 2 1
  badd l 2 0
  badd l 2 1

/-- Start one piece of the reduce-scatter, if its condition holds. -/
def rstart (c : BitVec 1) (off : Fin 2 → ℕ) (hoff : c = 1#1 → ∀ a, off a + S8x1024.size a ≤ S64x1024.size a)
    (p : ℕ) (hp : c = 1#1 → p < nD) (j : Fin 7) : Prog (TpuEff nD τ sig (Elt F) Λ₀ .tc) PUnit :=
  if h : c = 1#1 then do
    Prog.lift (.enqueueDma (rowsAt off (hoff h)) (.remote (Dev.tc (⟨p, hp h⟩ : Dev nD)) (rsB j) (.dma (rsSem j))) (.dma (rrSem j))
      (View.wordExact_bits rfl) ((View.wordExact_bits rfl).reshape _ _) ⟨⟨rfl, Or.inl rfl⟩, trivial⟩)
    pure ⟨⟩
  else pure ⟨⟩

/-- Wait for one piece to have left, -/
def rwaitS (d : Dev nD) (w : BitVec 32) (h : ∀ a, (k0_off15 d w) a + S8x1024.size a ≤ S64x1024.size a) (j : Fin 7) : Prog (TpuEff nD τ sig (Elt F) Λ₀ .tc) PUnit :=
  Prog.lift (.waitDma2 (rsSem j) (rsB j) (rowsAt (k0_off15 d w) h) ((View.wordExact_bits rfl).reshape _ _) (View.wordExact_bits rfl))

/-- and for one to have come. -/
def rwaitR (d : Dev nD) (w : BitVec 32) (h : ∀ a, (k0_off15 d w) a + S8x1024.size a ≤ S64x1024.size a) (j : Fin 7) : Prog (TpuEff nD τ sig (Elt F) Λ₀ .tc) PUnit :=
  Prog.lift (.waitDma2 (rrSem j) (rowsAt (k0_off15 d w) h) (rsB j) (View.wordExact_bits rfl) ((View.wordExact_bits rfl).reshape _ _))

/-- Read one piece that came. -/
def ldRs (j : Fin 7) : Prog (TpuEff nD τ sig (Elt F) Λ₀ .tc) (Vec F S1x8x1024 .f32) := Prog.lift (.load rsM (rRs j).toLoadRect (View.loadsAt_vmem h_S1x8x1024))

/-- Add the pieces that came to the device's own rows, in order, and write the result. -/
def finish (d : Dev nD) : Prog (TpuEff nD τ sig (Elt F) Λ₀ .tc) PUnit := do
  let v ← Prog.lift (.load flatM (Rect.unit (s := S64x1024) (k0_off16 d) S8x1024.size (k0_off16_inb d)).toLoadRect (View.loadsAt_vmem h_S8x1024))
  let r0 ← ldRs 0
  let r1 ← ldRs 1
  let r2 ← ldRs 2
  let r3 ← ldRs 3
  let r4 ← ldRs 4
  let r5 ← ldRs 5
  let r6 ← ldRs 6
  let _ ← Prog.lift (.load outM (Rect.unit (s := S8x1024) ![0, 0] S8x1024.size inb_S8x1024_S8x1024_0_0).toLoadRect (View.loadsAt_vmem h_S8x1024))
  Prog.lift (.store outM (Rect.unit (s := S8x1024) ![0, 0] S8x1024.size inb_S8x1024_S8x1024_0_0) (k0_pay1 (k0_pay23 v r0 r1 r2 r3 r4 r5) r6)
    Finset.univ (View.stores_vmem_bits_univ h_S8x1024 rfl) (.inl rfl))

/-- The device the exchanges of layer 0, and of layer 1, are printed as sent to. -/
def pp0 (d : Dev nD) : Fin 3 → Fin 2 → Dev nD
  | 0, 0 => ⟨k0_dev8 d, k0_dev8_lt d⟩ | 0, 1 => ⟨k0_dev9 d, k0_dev9_lt d⟩
  | 1, 0 => ⟨k0_dev10 d, k0_dev10_lt d⟩ | 1, 1 => ⟨k0_dev11 d, k0_dev11_lt d⟩
  | 2, 0 => ⟨k0_dev12 d, k0_dev12_lt d⟩ | 2, 1 => ⟨k0_dev13 d, k0_dev13_lt d⟩
def pp1 (d : Dev nD) : Fin 3 → Fin 2 → Dev nD
  | 0, 0 => ⟨k0_dev14 d, k0_dev14_lt d⟩ | 0, 1 => ⟨k0_dev15 d, k0_dev15_lt d⟩
  | 1, 0 => ⟨k0_dev16 d, k0_dev16_lt d⟩ | 1, 1 => ⟨k0_dev17 d, k0_dev17_lt d⟩
  | 2, 0 => ⟨k0_dev18 d, k0_dev18_lt d⟩ | 2, 1 => ⟨k0_dev19 d, k0_dev19_lt d⟩

abbrev wM1 : Memref sig .tc .hbm S1024x2048 .f32 := Memref.whole main_arg1
abbrev wM2 : Memref sig .tc .hbm S2048x1024 .f32 := Memref.whole main_arg2
abbrev wM3 : Memref sig .tc .hbm S1024x2048 .f32 := Memref.whole main_arg3
abbrev wM4 : Memref sig .tc .hbm S2048x1024 .f32 := Memref.whole main_arg4
abbrev wM5 : Memref sig .tc .hbm S1024x2048 .f32 := Memref.whole main_arg5
abbrev wM6 : Memref sig .tc .hbm S2048x1024 .f32 := Memref.whole main_arg6

/-- The barrier, on device `d`: a signal to each of the seven others, then the wait for theirs. -/
def barrier (d : Dev nD) : Prog (TpuEff nD τ sig (Elt F) Λ₀ .tc) PUnit := do
  signal ⟨k0_dev1 d, k0_dev1_lt d⟩
  signal ⟨k0_dev2 d, k0_dev2_lt d⟩
  signal ⟨k0_dev3 d, k0_dev3_lt d⟩
  signal ⟨k0_dev4 d, k0_dev4_lt d⟩
  signal ⟨k0_dev5 d, k0_dev5_lt d⟩
  signal ⟨k0_dev6 d, k0_dev6_lt d⟩
  signal ⟨k0_dev7 d, k0_dev7_lt d⟩
  semWaitWord barSem 7#32

/-- The reduce-scatter's starts of the first block of rows, -/
def starts0 (d : Dev nD) : Prog (TpuEff nD τ sig (Elt F) Λ₀ .tc) PUnit := do
  rstart (k0_cond1 d) (k0_off1 d) (k0_off1_inb d) (k0_dev20 d) (k0_dev20_lt d) 0
  rstart (k0_cond2 d) (k0_off2 d) (k0_off2_inb d) (k0_dev21 d) (k0_dev21_lt d) 1
  rstart (k0_cond3 d) (k0_off3 d) (k0_off3_inb d) (k0_dev22 d) (k0_dev22_lt d) 2
  rstart (k0_cond4 d) (k0_off4 d) (k0_off4_inb d) (k0_dev23 d) (k0_dev23_lt d) 3
  rstart (k0_cond5 d) (k0_off5 d) (k0_off5_inb d) (k0_dev24 d) (k0_dev24_lt d) 4
  rstart (k0_cond6 d) (k0_off6 d) (k0_off6_inb d) (k0_dev25 d) (k0_dev25_lt d) 5
  rstart (k0_cond7 d) (k0_off7 d) (k0_off7_inb d) (k0_dev26 d) (k0_dev26_lt d) 6

/-- and of the second. -/
def starts1 (d : Dev nD) : Prog (TpuEff nD τ sig (Elt F) Λ₀ .tc) PUnit := do
  rstart (k0_cond8 d) (k0_off8 d) (k0_off8_inb d) (k0_dev27 d) (k0_dev27_lt d) 0
  rstart (k0_cond9 d) (k0_off9 d) (k0_off9_inb d) (k0_dev28 d) (k0_dev28_lt d) 1
  rstart (k0_cond10 d) (k0_off10 d) (k0_off10_inb d) (k0_dev29 d) (k0_dev29_lt d) 2
  rstart (k0_cond11 d) (k0_off11 d) (k0_off11_inb d) (k0_dev30 d) (k0_dev30_lt d) 3
  rstart (k0_cond12 d) (k0_off12 d) (k0_off12_inb d) (k0_dev31 d) (k0_dev31_lt d) 4
  rstart (k0_cond13 d) (k0_off13 d) (k0_off13_inb d) (k0_dev32 d) (k0_dev32_lt d) 5
  rstart (k0_cond14 d) (k0_off14 d) (k0_off14_inb d) (k0_dev33 d) (k0_dev33_lt d) 6

/-- The reduce-scatter's waits: every piece has left, every piece has come. -/
def waits (d : Dev nD) : Prog (TpuEff nD τ sig (Elt F) Λ₀ .tc) PUnit := do
  rwaitS d 1#32 (k0_off15_inb d 0) 0
  rwaitS d 2#32 (k0_off15_inb d 1) 1
  rwaitS d 3#32 (k0_off15_inb d 2) 2
  rwaitS d 4#32 (k0_off15_inb d 3) 3
  rwaitS d 5#32 (k0_off15_inb d 4) 4
  rwaitS d 6#32 (k0_off15_inb d 5) 5
  rwaitS d 7#32 (k0_off15_inb d 6) 6
  rwaitR d 1#32 (k0_off15_inb d 0) 0
  rwaitR d 2#32 (k0_off15_inb d 1) 1
  rwaitR d 3#32 (k0_off15_inb d 2) 2
  rwaitR d 4#32 (k0_off15_inb d 3) 3
  rwaitR d 5#32 (k0_off15_inb d 4) 4
  rwaitR d 6#32 (k0_off15_inb d 5) 5
  rwaitR d 7#32 (k0_off15_inb d 6) 6

/-- The body, as its steps. -/
def steps : Prog (TpuEff nD τ sig (Elt F) Λ₀ .tc) PUnit := do
  let d : Dev nD ← Prog.lift .deviceId
  loadW wM1 (Memref.isWhole_whole _) wM2 (Memref.isWhole_whole _) 0 1 0
  barrier d
  waitW wM1 (Memref.isWhole_whole _) wM2 (Memref.isWhole_whole _) 0 1 0
  loadW wM3 (Memref.isWhole_whole _) wM4 (Memref.isWhole_whole _) 2 3 1
  layer 0 mul0 (pp0 d)
  waitW wM3 (Memref.isWhole_whole _) wM4 (Memref.isWhole_whole _) 2 3 1
  loadW wM5 (Memref.isWhole_whole _) wM6 (Memref.isWhole_whole _) 4 5 0
  layer 1 mul1 (pp1 d)
  waitW wM5 (Memref.isWhole_whole _) wM6 (Memref.isWhole_whole _) 4 5 0
  mul2 0
  starts0 d
  mul2 1
  starts1 d
  waits d
  finish d

/-! ## The printed body is its steps -/

/-- A printed part, at the buffers and semaphores the launch calls the body with. -/
abbrev at0 {β : Type _} (f : (arg0 : Memref sig .tc .vmem S64x1024 .f32) → arg0.IsWhole
    → (arg1 : Memref sig .tc .hbm S1024x2048 .f32) → arg1.IsWhole → (arg2 : Memref sig .tc .hbm S2048x1024 .f32) → arg2.IsWhole
    → (arg3 : Memref sig .tc .hbm S1024x2048 .f32) → arg3.IsWhole → (arg4 : Memref sig .tc .hbm S2048x1024 .f32) → arg4.IsWhole
    → (arg5 : Memref sig .tc .hbm S1024x2048 .f32) → arg5.IsWhole → (arg6 : Memref sig .tc .hbm S2048x1024 .f32) → arg6.IsWhole
    → (arg7 : Memref sig .tc .vmem S8x1024 .f32) → arg7.IsWhole → (arg8 : Memref sig .tc .vmem S2x1024x2048 .f32) → arg8.IsWhole
    → (arg9 : Memref sig .tc .vmem S2x2048x1024 .f32) → arg9.IsWhole → (arg10 : Memref sig .tc .vmem S2x32x1024 .f32) → arg10.IsWhole
    → (arg11 : Memref sig .tc .vmem S64x1024 .f32) → arg11.IsWhole → (arg12 : Memref sig .tc .vmem S2x3x2x32x1024 .f32) → arg12.IsWhole
    → (arg13 : Memref sig .tc .vmem S7x8x1024 .f32) → arg13.IsWhole → DmaSems sig S6 → DmaSems sig S2x3x2 → DmaSems sig S2x3x2
    → DmaSems sig S7 → DmaSems sig S7 → β) : β :=
  f xM (Memref.isWhole_whole _) wM1 (Memref.isWhole_whole _) wM2 (Memref.isWhole_whole _) wM3 (Memref.isWhole_whole _)
    wM4 (Memref.isWhole_whole _) wM5 (Memref.isWhole_whole _) wM6 (Memref.isWhole_whole _) outM (Memref.isWhole_whole _)
    winM (Memref.isWhole_whole _) woutM (Memref.isWhole_whole _) accM (Memref.isWhole_whole _) flatM (Memref.isWhole_whole _)
    bflyM (Memref.isWhole_whole _) rsM (Memref.isWhole_whole _) cc0_scratch6 cc0_scratch7 cc0_scratch8 cc0_scratch9 cc0_scratch10

/-- The printed body there. -/
abbrev body : Prog (TpuEff nD τ sig (Elt F) Λ₀ .tc) PUnit := at0 (cc0_body (F := F))

/-- One conditional start in front of the rest, either way of binding the rest. -/
theorem rstart_bind {α : Type} (c : BitVec 1) (off : Fin 2 → ℕ) (hoff : c = 1#1 → ∀ a, off a + S8x1024.size a ≤ S64x1024.size a)
    (p : ℕ) (hp : c = 1#1 → p < nD) (j : Fin 7) (k : PUnit → Prog (TpuEff nD τ sig (Elt F) Λ₀ .tc) α) :
    (rstart c off hoff p hp j >>= k)
      = if h : c = 1#1 then
          (Prog.lift (.enqueueDma (rowsAt off (hoff h)) (.remote (Dev.tc (⟨p, hp h⟩ : Dev nD)) (rsB j) (.dma (rsSem j))) (.dma (rrSem j))
            (View.wordExact_bits rfl) ((View.wordExact_bits rfl).reshape _ _) ⟨⟨rfl, Or.inl rfl⟩, trivial⟩) >>= k)
        else k ⟨⟩ := by
  unfold rstart
  by_cases h : c = 1#1
  · rw [dif_pos h, dif_pos h]; rfl
  · rw [dif_neg h, dif_neg h]; rfl

theorem part27_eq (d0 : Dev nD) (v2 : BitVec 32) (v541 : BitVec 32) (v575 : BitVec 32) (c4_i32_887 : BitVec 32) (v576 : BitVec 32) (v578 : BitVec 32) (v580 : BitVec 32) :
    ∃ w, at0 (k0_part27 (F := F)) d0 v2 v541 v575 c4_i32_887 v576 v578 v580
      = (rstart (k0_cond1 d0) (k0_off1 d0) (k0_off1_inb d0) (k0_dev20 d0) (k0_dev20_lt d0) 0 >>= fun _ => pure w) := by
  apply Exists.intro
  rw [k0_part27_eq_skeleton]
  simp only [rstart_bind]
  rfl

theorem part28_eq (d0 : Dev nD) (v2 : BitVec 32) (v544 : BitVec 32) (v547 : BitVec 32) (v616 : BitVec 32) (c0_i32_912 : BitVec 32) :
    ∃ w, at0 (k0_part28 (F := F)) d0 v2 v544 v547 v616 c0_i32_912
      = (rstart (k0_cond2 d0) (k0_off2 d0) (k0_off2_inb d0) (k0_dev21 d0) (k0_dev21_lt d0) 1 >>= fun _ => rstart (k0_cond3 d0) (k0_off3 d0) (k0_off3_inb d0) (k0_dev22 d0) (k0_dev22_lt d0) 2 >>= fun _ => pure w) := by
  apply Exists.intro
  rw [k0_part28_eq_skeleton]
  simp only [rstart_bind]
  rfl

theorem part29_eq (d0 : Dev nD) (v2 : BitVec 32) (v550 : BitVec 32) (v553 : BitVec 32) (v641 : BitVec 32) (c4_i32_929 : BitVec 32) (v642 : BitVec 32) (v653 : BitVec 1) :
    ∃ w, at0 (k0_part29 (F := F)) d0 v2 v550 v553 v641 c4_i32_929 v642 v653
      = (rstart (k0_cond4 d0) (k0_off4 d0) (k0_off4_inb d0) (k0_dev23 d0) (k0_dev23_lt d0) 3 >>= fun _ => rstart (k0_cond5 d0) (k0_off5 d0) (k0_off5_inb d0) (k0_dev24 d0) (k0_dev24_lt d0) 4 >>= fun _ => pure w) := by
  apply Exists.intro
  rw [k0_part29_eq_skeleton]
  simp only [rstart_bind]
  rfl

theorem part30_eq (d0 : Dev nD) (v2 : BitVec 32) (v556 : BitVec 32) (v685 : BitVec 32) (c4_i32_957 : BitVec 32) (v686 : BitVec 32) (c0_i32_958 : BitVec 32) :
    ∃ w, at0 (k0_part30 (F := F)) d0 v2 v556 v685 c4_i32_957 v686 c0_i32_958
      = (rstart (k0_cond6 d0) (k0_off6 d0) (k0_off6_inb d0) (k0_dev25 d0) (k0_dev25_lt d0) 5 >>= fun _ => pure w) := by
  apply Exists.intro
  rw [k0_part30_eq_skeleton]
  simp only [rstart_bind]
  rfl

theorem part31_eq (d0 : Dev nD) (v2 : BitVec 32) (v559 : BitVec 32) (v725 : BitVec 1) :
    ∃ w, at0 (k0_part31 (F := F)) d0 v2 v559 v725
      = (rstart (k0_cond7 d0) (k0_off7 d0) (k0_off7_inb d0) (k0_dev26 d0) (k0_dev26_lt d0) 6 >>= fun _ => mul2 1 >>= fun _ => pure w) := by
  apply Exists.intro
  rw [k0_part31_eq_skeleton]
  simp only [rstart_bind, bind_assoc]
  rfl

theorem part32_eq (d0 : Dev nD) (v2 : BitVec 32) (v541 : BitVec 32) (v544 : BitVec 32) (v743 : BitVec 32) (v757 : BitVec 1) :
    ∃ w, at0 (k0_part32 (F := F)) d0 v2 v541 v544 v743 v757
      = (rstart (k0_cond8 d0) (k0_off8 d0) (k0_off8_inb d0) (k0_dev27 d0) (k0_dev27_lt d0) 0 >>= fun _ => rstart (k0_cond9 d0) (k0_off9 d0) (k0_off9_inb d0) (k0_dev28 d0) (k0_dev28_lt d0) 1 >>= fun _ => pure w) := by
  apply Exists.intro
  rw [k0_part32_eq_skeleton]
  simp only [rstart_bind]
  rfl

theorem part33_eq (d0 : Dev nD) (v2 : BitVec 32) (v547 : BitVec 32) (v786 : BitVec 32) (c4_i32_1027 : BitVec 32) (v787 : BitVec 32) (v789 : BitVec 32) (v790 : BitVec 1) :
    ∃ w, at0 (k0_part33 (F := F)) d0 v2 v547 v786 c4_i32_1027 v787 v789 v790
      = (rstart (k0_cond10 d0) (k0_off10 d0) (k0_off10_inb d0) (k0_dev29 d0) (k0_dev29_lt d0) 2 >>= fun _ => pure w) := by
  apply Exists.intro
  rw [k0_part33_eq_skeleton]
  simp only [rstart_bind]
  rfl

theorem part34_eq (d0 : Dev nD) (v2 : BitVec 32) (v550 : BitVec 32) (v553 : BitVec 32) (v827 : BitVec 32) :
    ∃ w, at0 (k0_part34 (F := F)) d0 v2 v550 v553 v827
      = (rstart (k0_cond11 d0) (k0_off11 d0) (k0_off11_inb d0) (k0_dev30 d0) (k0_dev30_lt d0) 3 >>= fun _ => rstart (k0_cond12 d0) (k0_off12 d0) (k0_off12_inb d0) (k0_dev31 d0) (k0_dev31_lt d0) 4 >>= fun _ => pure w) := by
  apply Exists.intro
  rw [k0_part34_eq_skeleton]
  simp only [rstart_bind]
  rfl

theorem part35_eq (d0 : Dev nD) (v2 : BitVec 32) (v556 : BitVec 32) (v559 : BitVec 32) (v852 : BitVec 32) (c4_i32_1069 : BitVec 32) (v853 : BitVec 32) (v858 : BitVec 32) (v863 : BitVec 32) :
    ∃ w, at0 (k0_part35 (F := F)) d0 v2 v556 v559 v852 c4_i32_1069 v853 v858 v863
      = (rstart (k0_cond13 d0) (k0_off13 d0) (k0_off13_inb d0) (k0_dev32 d0) (k0_dev32_lt d0) 5 >>= fun _ => rstart (k0_cond14 d0) (k0_off14 d0) (k0_off14_inb d0) (k0_dev33 d0) (k0_dev33_lt d0) 6 >>= fun _ => pure w) := by
  apply Exists.intro
  rw [k0_part35_eq_skeleton]
  simp only [rstart_bind]
  rfl

set_option maxRecDepth 65536 in
/-- The printed body is its steps. -/
theorem body_steps : body (F := F) = steps := by
  choose w27 h27 using part27_eq (F := F)
  choose w28 h28 using part28_eq (F := F)
  choose w29 h29 using part29_eq (F := F)
  choose w30 h30 using part30_eq (F := F)
  choose w31 h31 using part31_eq (F := F)
  choose w32 h32 using part32_eq (F := F)
  choose w33 h33 using part33_eq (F := F)
  choose w34 h34 using part34_eq (F := F)
  choose w35 h35 using part35_eq (F := F)
  unfold body
  rw [cc0_body_eq_skeleton]
  unfold at0 at h27 h28 h29 h30 h31 h32 h33 h34 h35
  unfold at0 cc0_body_skel
  simp only [h27, h28, h29, h30, h31, h32, h33, h34, h35, bind_assoc, pure_bind]
  unfold steps starts0 starts1
  simp only [bind_assoc]
  chain_rfl

end Cert.KernelIdeal.Bfly

end
-- ==== Proof.Protocol.lean ====
/- The cross-device protocol of the kernel: its semaphores by name, what each buffer holds at each step, which
   resources each semaphore's count hands over, what every device owes the others, and the order in which waits
   happen. Every semaphore is used for exactly one handshake. -/
module

public import proofs.«01_k».proof.Proof.Steps

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's resources beside this protocol's (a cell has up to seven duties). -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The devices -/

/-- The device `j + 1` places on, and the one `j + 1` places back. -/
def fwd (j : Fin 7) (c : Dev nD) : Dev nD := ⟨(c.val + j.val + 1) % 8, Nat.mod_lt _ (by decide)⟩
def bwd (j : Fin 7) (c : Dev nD) : Dev nD := ⟨(c.val + (7 - j.val)) % 8, Nat.mod_lt _ (by decide)⟩
/-- The partner in stage `s` of the butterfly: 4, then 1, then 3 flipped in the device's number. -/
def partner (s : ℕ) (c : Dev nD) : Dev nD :=
  ⟨(c.val ^^^ (match s with | 0 => 4 | 1 => 1 | _ => 3)) % 8, Nat.mod_lt _ (by decide)⟩
/-- How far on the partner of stage `s` is. -/
def dist (s : Fin 3) (c : Dev nD) : Fin 7 := ⟨((partner s c).val + 8 - c.val) % 8 - 1, by revert s c; decide⟩
/-- The half (32 rows) which device `p`'s eight rows of the result are in. -/
def half (p : Dev nD) : Fin 2 := ⟨p.val / 4, by have := p.isLt; revert this; generalize p.val = v; decide +revert⟩

theorem fwd_bwd : ∀ j c, fwd j (bwd j c) = c := by decide
theorem bwd_fwd : ∀ j c, bwd j (fwd j c) = c := by decide
theorem partner_partner : ∀ (s : Fin 3) c, partner s (partner s c) = c := by decide
theorem fwd_dist : ∀ (s : Fin 3) c, fwd (dist s c) c = partner s c := by decide
theorem bwd_dist : ∀ (s : Fin 3) c, bwd (dist s (partner s c)) c = partner s c := by decide
theorem dist_bwd : ∀ (s : Fin 3) (d : Fin 7) c, d = dist s (bwd d c) ↔ d = dist s (partner s c) := by decide

/-! ## The semaphores -/

/-- The semaphores the protocol uses: the barrier's, two per layer for its weights' loads, and the sending and
    receiving sides of the exchanges and of the reduce-scatter. -/
inductive Key
  | bar
  | wi (l : Fin 3)
  | wo (l : Fin 3)
  | bs (l : Fin 2) (s : Fin 3) (b : Fin 2)
  | br (l : Fin 2) (s : Fin 3) (b : Fin 2)
  | ss (j : Fin 7)
  | sr (j : Fin 7)
deriving DecidableEq

/-- The names by kind. -/
def keyE : (Unit ⊕ Fin 3 ⊕ Fin 3 ⊕ (Fin 2 × Fin 3 × Fin 2) ⊕ (Fin 2 × Fin 3 × Fin 2) ⊕ Fin 7 ⊕ Fin 7) ≃ Key where
  toFun
    | .inl _ => .bar
    | .inr (.inl l) => .wi l
    | .inr (.inr (.inl l)) => .wo l
    | .inr (.inr (.inr (.inl (l, s, b)))) => .bs l s b
    | .inr (.inr (.inr (.inr (.inl (l, s, b))))) => .br l s b
    | .inr (.inr (.inr (.inr (.inr (.inl j))))) => .ss j
    | .inr (.inr (.inr (.inr (.inr (.inr j))))) => .sr j
  invFun
    | .bar => .inl ()
    | .wi l => .inr (.inl l)
    | .wo l => .inr (.inr (.inl l))
    | .bs l s b => .inr (.inr (.inr (.inl (l, s, b))))
    | .br l s b => .inr (.inr (.inr (.inr (.inl (l, s, b)))))
    | .ss j => .inr (.inr (.inr (.inr (.inr (.inl j)))))
    | .sr j => .inr (.inr (.inr (.inr (.inr (.inr j)))))
  left_inv x := by rcases x with _ | _ | _ | _ | _ | _ | _ <;> rfl
  right_inv k := by cases k <;> rfl
instance : Fintype Key := Fintype.ofEquiv _ keyE

/-- Which of the six loads' semaphores layer `l`'s two are. -/
def nWI : Fin 3 → Fin 6 | 0 => 0 | 1 => 2 | 2 => 4
def nWO : Fin 3 → Fin 6 | 0 => 1 | 1 => 3 | 2 => 5

def semOf : Key → SemLoc sig
  | .bar => .reg barSem
  | .wi l => .dma (semW (nWI l))
  | .wo l => .dma (semW (nWO l))
  | .bs l s b => .dma (bsSem l s b)
  | .br l s b => .dma (brSem l s b)
  | .ss j => .dma (rsSem j)
  | .sr j => .dma (rrSem j)

theorem semOf_injective : Function.Injective semOf := by
  have h : ∀ k k' : Key, semOf k = semOf k' → k = k' := by decide +kernel
  exact fun k k' => h k k'

open Classical in
/-- The semaphore's name, if it has one. -/
def keyOf (sm : SemLoc sig) : Option Key := if h : ∃ k, semOf k = sm then some h.choose else none

theorem keyOf_semOf (k : Key) : keyOf (semOf k) = some k := by
  unfold keyOf
  have h : ∃ k', semOf k' = semOf k := ⟨k, rfl⟩
  rw [dif_pos h, semOf_injective h.choose_spec]

theorem keyOf_none {sm : SemLoc sig} (h : ∀ k, semOf k ≠ sm) : keyOf sm = none := by
  unfold keyOf; rw [dif_neg]; rintro ⟨k, hk⟩; exact h k hk

abbrev cell (c : Dev nD) (k : Key) : GSem nD τ sig := ((c : Thread nD τ), semOf k)
abbrev kcell (ck : Dev nD × Key) : GSem nD τ sig := cell ck.1 ck.2

/-! ## The contents -/

/-- One product pair: rows through the input weights, cut off below at zero, then through the output weights. -/
def mlp (x : FVec F S32x1024 .f32) (wi : FVec F S1024x2048 .f32) (wo : FVec F S2048x1024 .f32) : FVec F S32x1024 .f32 :=
  matmul dot_S32x2048_S2048x1024_S32x1024_1_0_0_1_n_n none
    (maximumf (matmul dot_S32x1024_S1024x2048_S32x2048_1_0_0_1_n_n none x wi (constant S32x2048 .f32 0x00000000#32))
      (broadcast S32x2048 (Scalar.ofBits .f32 0x00000000#32)))
    wo (constant S32x1024 .f32 0x00000000#32)

/-- `s` stages of the butterfly over what each device starts with. -/
def bfly (f : Dev nD → FVec F S32x1024 .f32) : ℕ → Dev nD → FVec F S32x1024 .f32
  | 0, c => f c
  | s + 1, c => addf (bfly f s c) (bfly f s (partner s c))

/-- The weights' arrays, and the slot each layer's are loaded into. -/
def wiM : Fin 3 → Memref sig .tc .hbm S1024x2048 .f32 | 0 => wM1 | 1 => wM3 | 2 => wM5
def woM : Fin 3 → Memref sig .tc .hbm S2048x1024 .f32 | 0 => wM2 | 1 => wM4 | 2 => wM6
def slot : Fin 3 → Fin 2 | 0 => 0 | 1 => 1 | 2 => 0

/-- A layer's weights on a device, the input block, and its half `b`. -/
def WI (l : Fin 3) (c : Dev nD) : FVec F S1024x2048 .f32 := (wiM l).view.read (Elt F) (m ((wiM l).view.loc (c : Thread nD τ)))
def WO (l : Fin 3) (c : Dev nD) : FVec F S2048x1024 .f32 := (woM l).view.read (Elt F) (m ((woM l).view.loc (c : Thread nD τ)))
def xstg (c : Dev nD) : (cc0_stg0_0 : Ref sig .tc).ty.Contents (Elt F) :=
  (win0_0.blk (0 : Fin 1)).view.read (Elt F) (m ((c : Thread nD τ).loc main_arg0))
def xHalf (b : Fin 2) (c : Dev nD) : FVec F S32x1024 .f32 := (xM.access (rHalf b)).read (Elt F) (xstg m c)

/-- A block's running sum as a layer's products leave it, -/
def base0 (b : Fin 2) (c : Dev nD) : FVec F S32x1024 .f32 := mlp (xHalf m b c) (WI m 0 c) (WO m 0 c)
def base1 (b : Fin 2) (c : Dev nD) : FVec F S32x1024 .f32 := mlp (bfly (base0 m b) 3 c) (WI m 1 c) (WO m 1 c)
def base : Fin 2 → Fin 2 → Dev nD → FVec F S32x1024 .f32 | 0 => base0 m | 1 => base1 m
/-- after `s` stages of that layer's exchanges, -/
def A (l : Fin 2) (s : ℕ) (b : Fin 2) (c : Dev nD) : FVec F S32x1024 .f32 := bfly (base m l b) s c
/-- and the last product. -/
def lastP (b : Fin 2) (c : Dev nD) : FVec F S32x1024 .f32 := mlp (A m 1 3 b c) (WI m 2 c) (WO m 2 c)

theorem inbRow : ∀ (p : Dev nD) a, (![8 * p.val, 0] : Fin 2 → ℕ) a + S8x1024.size a ≤ S64x1024.size a := by decide
/-- Device `p`'s eight rows. -/
abbrev rRow (p : Dev nD) : Rect S64x1024 := Rect.unit (s := S64x1024) ![8 * p.val, 0] S8x1024.size (inbRow p)
abbrev rowP (p : Dev nD) : Memref sig .tc .vmem S8x1024 .f32 := rowsAt ![8 * p.val, 0] (inbRow p)

theorem inbIn : ∀ (p : Dev nD) a, (![8 * (p.val % 4), 0] : Fin 2 → ℕ) a + S8x1024.size a ≤ S32x1024.size a := by decide
/-- Where they are in their half. -/
abbrev rIn (p : Dev nD) : Rect S32x1024 := Rect.unit (s := S32x1024) ![8 * (p.val % 4), 0] S8x1024.size (inbIn p)
/-- Device `p`'s eight rows of device `c`'s last product. -/
def piece (c p : Dev nD) : FVec F S8x1024 .f32 := fun i => lastP m (half p) c ((rIn p).emb i)

/-- The result: the device's own rows and what came, added in the order of the slots. -/
def outV (c : Dev nD) : FVec F S8x1024 .f32 :=
  addf (addf (addf (addf (addf (addf (addf (piece m c c) (piece m (bwd 0 c) c)) (piece m (bwd 1 c) c)) (piece m (bwd 2 c) c))
    (piece m (bwd 3 c) c)) (piece m (bwd 4 c) c)) (piece m (bwd 5 c) c)) (piece m (bwd 6 c) c)

/-! ## The schedule -/

/-- A memref owned at its contents, and at contents nobody knows. -/
def own' (c : Dev nD) {sp : Space} {s : Shape} (M : Memref sig .tc sp s .f32) (X : s.Idx → Elt F .f32) : sProp 𝕄 := owns (c : Thread nD τ) M fullShare X
def some' (c : Dev nD) {sp : Space} {s : Shape} (M : Memref sig .tc sp s .f32) : sProp 𝕄 := iprop(∃ X, own' c M X)

omit [FloatOps F] in
instance own'_storable (c : Dev nD) {sp : Space} {s : Shape} (M : Memref sig .tc sp s .f32) (X : s.Idx → Elt F .f32) :
    BI.Storable (upEmb : UEmb _ 𝕄) (own' (F := F) c M X) := by unfold own'; infer_instance
omit [FloatOps F] in
instance some'_storable (c : Dev nD) {sp : Space} {s : Shape} (M : Memref sig .tc sp s .f32) : BI.Storable (upEmb : UEmb _ 𝕄) (some' (F := F) c M) := by
  unfold some'; infer_instance

/-- The four landing slots of stage `s` on device `p`. -/
def slots (p : Dev nD) (s : Fin 3) : sProp 𝕄 := bigSep Finset.univ fun lb : Fin 2 × Fin 2 => some' (F := F) p (bflyB lb.1 s lb.2)
omit [FloatOps F] in
instance slots_storable (p : Dev nD) (s : Fin 3) : BI.Storable (upEmb : UEmb _ 𝕄) (slots (F := F) p s) := by unfold slots; infer_instance

/-- What the device `d + 1` places on hands `c` through the barrier: where `c`'s transfer to it lands, and where `c`'s
    exchanges with it land, if it is a partner of `c`'s. -/
def barPay (c : Dev nD) (d : Fin 7) : sProp 𝕄 :=
  iprop(some' (F := F) (fwd d c) (rsB d) ∗ bigSep Finset.univ fun s : Fin 3 => if d = dist s c then slots (F := F) (fwd d c) s else iprop(emp))
omit [FloatOps F] in
instance barPay_storable (c : Dev nD) (d : Fin 7) : BI.Storable (upEmb : UEmb _ 𝕄) (barPay (F := F) c d) := by
  unfold barPay
  have (s : Fin 3) : BI.Storable (upEmb : UEmb _ 𝕄) (if d = dist s c then slots (F := F) (fwd d c) s else iprop(emp)) := by
    split <;> infer_instance
  infer_instance

/-- What a semaphore's full count hands its device. -/
def payK (c : Dev nD) : Key → Fin 7 → sProp 𝕄
  | .bar, d => barPay c d
  | .wi l, _ => iprop(own' c (winB (slot l)) (WI m l c) ∗ own' c (wiM l) (WI m l c))
  | .wo l, _ => iprop(own' c (woutB (slot l)) (WO m l c) ∗ own' c (woM l) (WO m l c))
  | .bs l s b, _ => own' c (accB b) (A m l s b c)
  | .br l s b, _ => own' c (bflyB l s b) (A m l s b (partner s c))
  | .ss j, _ => own' c (rowP (fwd j c)) (piece m c (fwd j c))
  | .sr j, _ => own' c (rsB j) (piece m (bwd j c) c)

instance payK_storable (c : Dev nD) (k : Key) (d : Fin 7) : BI.Storable (upEmb : UEmb _ 𝕄) (payK (F := F) m c k d) := by
  cases k <;> (unfold payK; infer_instance)

/-- How much each duty adds. -/
def amtK : Key → ℕ
  | .bar => 1
  | .wi l => (winB (slot l)).view.dmaCredit
  | .wo l => (woutB (slot l)).view.dmaCredit
  | .bs l s b => (bflyB l s b).view.dmaCredit
  | .br l s b => (bflyB l s b).view.dmaCredit
  | .ss j => (rsB j).view.dmaCredit
  | .sr j => (rsB j).view.dmaCredit
theorem amtK_pos (k : Key) : 0 < amtK k := by cases k <;> first | exact Nat.one_pos | exact View.dmaCredit_pos _ (by decide)

def dutK : Key → Finset (Fin 7) | .bar => Finset.univ | _ => {0}

def sched : Rounds.Schedule (GSem nD τ sig) (Fin 7) 𝕄 where
  duties g r := if r = 0 ∧ g.1.2 = .tc then (match keyOf g.2 with | some k => dutK k | none => ∅) else ∅
  unitless _ := False
  amount g _ _ := match keyOf g.2 with | some k => amtK k | none => 1
  payload g _ d := match keyOf g.2 with | some k => payK m g.1.1 k d | none => iprop(emp)
  amount_pos g _ _ _ := by
    cases keyOf g.2 with
    | none => exact Nat.one_pos
    | some k => exact amtK_pos k

instance sched_storable (g : GSem nD τ sig) (r : ℕ) (d : Fin 7) : BI.Storable (upEmb : UEmb _ 𝕄) ((sched (F := F) m).payload g r d) := by
  show BI.Storable upEmb (match keyOf g.2 with | some k => payK (F := F) m g.1.1 k d | none => iprop(emp))
  split <;> infer_instance

theorem duties_cell (c : Dev nD) (k : Key) : (sched (F := F) m).duties (cell c k) 0 = dutK k := by
  dsimp only [sched]; rw [if_pos ⟨rfl, rfl⟩, keyOf_semOf]
theorem duties_later (g : GSem nD τ sig) : ∀ r, 1 ≤ r → (sched (F := F) m).duties g r = ∅ :=
  fun r hr => by dsimp only [sched]; exact if_neg fun h => by omega
theorem amount_cell (c : Dev nD) (k : Key) (r : ℕ) (d : Fin 7) : (sched (F := F) m).amount (cell c k) r d = amtK k := by
  dsimp only [sched]; rw [keyOf_semOf]
theorem payload_cell (c : Dev nD) (k : Key) (r : ℕ) (d : Fin 7) : (sched (F := F) m).payload (cell c k) r d = payK m c k d := by
  dsimp only [sched]; rw [keyOf_semOf]
theorem expect_cell (c : Dev nD) (k : Key) : (sched (F := F) m).expect (cell c k) 0 = (dutK k).card * amtK k := by
  unfold Schedule.expect Schedule.amountOf
  rw [duties_cell, Finset.sum_congr rfl fun d _ => amount_cell m c k 0 d, Finset.sum_const, smul_eq_mul]
theorem rest_cell (c : Dev nD) (k : Key) :
    bigSep ((sched (F := F) m).duties (cell c k) 0 \ ∅) (fun d => (sched (F := F) m).payload (cell c k) 0 d) = bigSep (dutK k) (payK m c k) := by
  rw [Finset.sdiff_empty, duties_cell]; exact bigSep_congr fun d _ => payload_cell m c k 0 d

/-! ## What a device owes, and the order of the waits -/

/-- The counts a device adds to other devices' semaphores. -/
inductive Ev
  | bar (d : Fin 7)
  | br (l : Fin 2) (s : Fin 3) (b : Fin 2)
  | sr (j : Fin 7)
deriving DecidableEq

/-- They by kind. -/
def evE : (Fin 7 ⊕ (Fin 2 × Fin 3 × Fin 2) ⊕ Fin 7) ≃ Ev where
  toFun
    | .inl d => .bar d
    | .inr (.inl (l, s, b)) => .br l s b
    | .inr (.inr j) => .sr j
  invFun
    | .bar d => .inl d
    | .br l s b => .inr (.inl (l, s, b))
    | .sr j => .inr (.inr j)
  left_inv x := by rcases x with _ | _ | _ <;> rfl
  right_inv e := by cases e <;> rfl
instance : Fintype Ev := Fintype.ofEquiv _ evE

/-- The semaphore, the device it is on, and its place among the waits. -/
def Ev.key : Ev → Key | .bar _ => .bar | .br l s b => .br l s b | .sr j => .sr j
def Ev.dev (c : Dev nD) : Ev → Dev nD | .bar d => bwd d c | .br _ s _ => partner s c | .sr j => fwd j c

def lvK : Key → ℕ
  | .bar => 1
  | .br l s b => 2 + 3 * l.val + s.val
  | .sr _ => 8
  | _ => 0

def tal (c : Dev nD) (e : Ev) : CellTallies nD τ sig Unit := tallyAt (cell (e.dev c) e.key) () (amtK e.key)
/-- What device `c` owes while the counts in `S` are still to come from it. -/
def owed (c : Dev nD) (S : Finset Ev) : CellTallies nD τ sig Unit := ∑ e ∈ S, tal c e

theorem owed_erase (c : Dev nD) {S : Finset Ev} {e : Ev} (h : e ∈ S) :
    owed c S = owed c (S.erase e) + tallyAt (cell (e.dev c) e.key) () (amtK e.key) :=
  (Finset.sum_erase_add S (tal c) h).symm

theorem owed_pos {c : Dev nD} {S : Finset Ev} {g : GSem nD τ sig} {u : Unit} (h : 0 < owed c S g u) : ∃ e ∈ S, g = cell (e.dev c) e.key := by
  by_contra hn
  refine absurd h (Nat.not_lt.mpr (Nat.le_of_eq ?_))
  unfold owed
  rw [Finset.sum_apply, Finsupp.finset_sum_apply]
  refine Finset.sum_eq_zero fun e he => ?_
  unfold tal
  rw [tallyAt_apply, if_neg fun h' => hn ⟨e, he, h'.1⟩]

def L (g : GSem nD τ sig) : Finset Unit := if g.1.2 = .tc then {()} else ∅
def lv (g : GSem nD τ sig) (_ : Unit) : ℕ := match keyOf g.2 with | some k => lvK k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) (u : Unit) : lv (cell c k) u = lvK k := by unfold lv; rw [keyOf_semOf]

/-- A device may wait on a semaphore below everything it still owes. -/
theorem mayWait_of (c : Dev nD) (sm : SemLoc sig) (S : Finset Ev) (b : ℕ) (hb : lv ((c : Thread nD τ), sm) () ≤ b) (hS : ∀ e ∈ S, b < lvK e.key) :
    (levAts L lv : sProp 𝕄) ⊢ MayWait (c : Thread nD τ) sm () (owed c S) :=
  MayOwe.of_cut (L := L) (lev := lv) b (fun p hp => by rw [Finset.mem_singleton.mp hp, L_tc]; exact Finset.mem_singleton_self _)
    (fun g u hg => by obtain ⟨e, _, rfl⟩ := owed_pos hg; exact Finset.mem_singleton_self _)
    (fun p hp => by rw [Finset.mem_singleton.mp hp]; exact hb)
    (fun g u hg => by obtain ⟨e, he, rfl⟩ := owed_pos hg; rw [lv_cell]; exact hS e he)

theorem mayWait_cell (c : Dev nD) (k : Key) (S : Finset Ev) (hS : ∀ e ∈ S, lvK k < lvK e.key) :
    (levAts L lv : sProp 𝕄) ⊢ MayWait (c : Thread nD τ) (semOf k) () (owed c S) :=
  mayWait_of c (semOf k) S (lvK k) (lv_cell c k ()).le hS

/-- The place of a count in the program's order (the reduce-scatter's counts last, together). -/
def rank : Ev → ℕ
  | .bar d => 6 - d.val
  | .br l s b => 7 + 6 * l.val + 2 * s.val + b.val
  | .sr _ => 19
/-- Among the reduce-scatter's counts: by the half the piece is in, then by the piece. -/
def rankR (c : Dev nD) : Ev → ℕ
  | .sr j => 7 * (half (fwd j c)).val + j.val
  | _ => 0
/-- What is still to come at place `n`, -/
def from' (n : ℕ) : Finset Ev := Finset.univ.filter fun e => n ≤ rank e
/-- and in the reduce-scatter, at piece `n` of the pass over half `b`. -/
def fromR (c : Dev nD) (b : Fin 2) (n : ℕ) : Finset Ev :=
  (from' 19).filter fun e => 7 * b.val + n ≤ rankR c e

theorem from'_bar : ∀ i : Fin 7, Ev.bar i.rev ∈ from' i.val ∧ (from' i.val).erase (.bar i.rev) = from' (i.val + 1) := by decide +kernel
theorem from'_br : ∀ (l : Fin 2) (s : Fin 3) (b : Fin 2), Ev.br l s b ∈ from' (rank (.br l s b))
    ∧ (from' (rank (.br l s b))).erase (.br l s b) = from' (rank (.br l s b) + 1) := by decide +kernel
theorem fromR_sr : ∀ (c : Dev nD) (b : Fin 2) (j : Fin 7), half (fwd j c) = b →
    Ev.sr j ∈ fromR c b j.val ∧ (fromR c b j.val).erase (.sr j) = fromR c b (j.val + 1) := by decide +kernel
theorem fromR_skip : ∀ (c : Dev nD) (b : Fin 2) (j : Fin 7), half (fwd j c) ≠ b → fromR c b (j.val + 1) = fromR c b j.val := by decide +kernel
theorem fromR_first : ∀ c : Dev nD, fromR c 0 0 = from' 19 := by decide +kernel
theorem fromR_last : ∀ c : Dev nD, fromR c 1 7 = ∅ := by decide +kernel
theorem from'_zero : from' 0 = Finset.univ := by decide +kernel

end Cert.KernelIdeal.Bfly

end
-- ==== Proof.Moves.lean ====
/- One step of the body at a time, in terms of what a device owns: a load and a store of a piece of a buffer, a copy on
   the device, a transfer to another device, a signal, a wait. Each is the rule for the operation at this protocol's
   semaphores. -/
module

public import proofs.«01_k».proof.Proof.Protocol
public import Idealize.ShloMosaic.Lib.Pipeline.Value

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use, and what a device still owes -/

/-- The records every device has: each semaphore's protocol, that it has started, and the order of the waits. -/
def recs (K : Dev nD × Key → ℕ) : sProp 𝕄 :=
  iprop((bigSep Finset.univ fun ck : Dev nD × Key => cellInv ER (sched m) (K ck) (kcell ck))
    ∗ (bigSep Finset.univ fun ck : Dev nD × Key => reached ER (kcell ck) 0) ∗ levAts L lv)

instance recs_persistent (K : Dev nD × Key → ℕ) : BI.Persistent (recs m K) := by unfold recs; infer_instance

theorem recs_inv (K : Dev nD × Key → ℕ) (c : Dev nD) (k : Key) : recs m K ⊢ cellInv ER (sched m) (K (c, k)) (cell c k) := by
  unfold recs; iintro ⟨#H, -, -⟩
  iapply (show _ ⊢ _ from bigSep_elim (Φ := fun ck : Dev nD × Key => (cellInv ER (sched m) (K ck) (kcell ck) : sProp 𝕄)) (Finset.mem_univ (c, k))); iexact H
theorem recs_reached (K : Dev nD × Key → ℕ) (c : Dev nD) (k : Key) : recs m K ⊢ reached ER (cell c k) 0 := by
  unfold recs; iintro ⟨-, #H, -⟩
  iapply (show _ ⊢ _ from bigSep_elim (Φ := fun ck : Dev nD × Key => (reached ER (kcell ck) 0 : sProp 𝕄)) (Finset.mem_univ (c, k))); iexact H
theorem recs_lev (K : Dev nD × Key → ℕ) : recs m K ⊢ levAts L lv := by
  unfold recs; iintro ⟨-, -, #H⟩; iexact H

/-- Device `c` still owes the counts in `S`. -/
def due (c : Dev nD) (S : Finset Ev) : sProp 𝕄 := iprop(∃ W, owes (c : Thread nD τ) (owed c S) W)

/-! ## Loads and stores -/

section Mem
variable {α : Type} {Q : α → sProp (MT nD τ sig Unit (Elt F) ℕ UU ℕ)} (c : Dev nD)

/-- A load of a piece reads what the piece, its unit axes dropped, holds. -/
theorem ld_own {sp : CoreSpace} {s s' : Shape} (M : Memref sig .tc sp s .f32) (r : Rect s) (hr : ∀ a, r.stride a = 1) (hq : r.shape.Squeezes s')
    (hc : s'.ShapeCasts r.shape) {hl : M.view.LoadsAt r.toLoadRect} (X : s'.Idx → Elt F .f32) {k : (r.shape.Idx → Elt F .f32) → Prog (TpuEff nD τ sig (Elt F) Λ₀ .tc) α} :
    own' c ((M.slice r hr).squeeze s' hq) X
      ⊢ iprop((own' c ((M.slice r hr).squeeze s' hq) X -∗ wpc c (k (shapeCast r.shape X hc)) Q) -∗ wpc c (.op (.load M r.toLoadRect hl) k) Q) := by
  unfold own' owns
  iintro ⟨%f, %hf, H⟩ Hk
  iapply (wp_load_rect 𝒱₀ (c : Thread nD τ) none Set.univ (m := M) (r := r) (f := f) (S := ((M.slice r hr).squeeze s' hq).view.set)
    (subset_of_eq (View.set_reshape _ _).symm)) $$ H
  iintro H
  have e : (M.access r).read (Elt F) f = shapeCast r.shape X hc := by
    rw [← hf, Memref.read_squeeze_slice M r hr hq hc.symm f, shapeCast_shapeCast]; rfl
  rw [e]
  iapply Hk
  iexists f
  isplitr; · (ipureintro; exact hf)
  iexact H

/-- A store to a piece: the piece, its unit axes dropped, holds what was stored. -/
theorem st_own {sp : CoreSpace} {s s' : Shape} (M : Memref sig .tc sp s .f32) (r : Rect s) (hr : ∀ a, r.stride a = 1) (hq : r.shape.Squeezes s')
    (hc : r.shape.ShapeCasts s') (w : r.shape.Idx → Elt F .f32) {hx : (M.access r).Stores Finset.univ} {hm : Finset.univ = Finset.univ ∨ ∀ a, r.stride a = 1}
    (X : s'.Idx → Elt F .f32) {k : PUnit → Prog (TpuEff nD τ sig (Elt F) Λ₀ .tc) α} :
    own' c ((M.slice r hr).squeeze s' hq) X
      ⊢ iprop((own' c ((M.slice r hr).squeeze s' hq) (shapeCast s' w hc) -∗ wpc c (k ⟨⟩) Q) -∗ wpc c (.op (.store M r w Finset.univ hx hm) k) Q) := by
  unfold own' owns
  iintro ⟨%f, %hf, H⟩ Hk
  iapply (wp_store 𝒱₀ (c : Thread nD τ) none Set.univ (m := M) (r := r) (w := w) (Mk := Finset.univ) (f := f) (S := ((M.slice r hr).squeeze s' hq).view.set)
    (subset_of_eq (View.set_reshape _ _).symm)) $$ H
  iintro H
  iapply Hk
  iexists ((M.access r).write (Elt F) f w Finset.univ)
  isplitr
  · ipureintro
    rw [Memref.read_squeeze_slice M r hr hq hc]
    exact congrArg (fun v => shapeCast s' v hc) (View.read_write_univ (v := M.access r) f w)
  iexact H

end Mem

/-! ## Copies and transfers -/

section Dma
variable {α : Type} {Q : α → sProp (MT nD τ sig Unit (Elt F) ℕ UU ℕ)} (K : Dev nD × Key → ℕ) (c : Dev nD)

/-- A copy on the device, its semaphore handing back both ends. -/
theorem copy_own {sp sp' : Space} {s : Shape} {src : Memref sig .tc sp s .f32} {dst : Memref sig .tc sp' s .f32} (key : Key)
    {hsrc : src.view.WordExact} {hdst : dst.view.WordExact} {hsem : DmaTarget.Typed (nD := nD) (τ := τ) (p := Proc.tc) sp (semOf key) (.here dst)}
    {k : PUnit → Prog (TpuEff nD τ sig (Elt F) Λ₀ .tc) α} (X : s.Idx → Elt F .f32)
    (hN : dst.view.amount (semOf key) = amtK key) (hd : 0 ∈ dutK key)
    (hpay : iprop(own' c dst X ∗ own' c src X) ⊢ payK m c key 0) :
    iprop(recs m K ∗ own' c src X ∗ some' c dst ∗ dutyTok ER (cell c key) 0 0)
      ⊢ iprop((cred (tallyAt (cell c key) () (amtK key)) -∗ wpc c (k ⟨⟩) Q) -∗ wpc c (.op (.enqueueDma src (.here dst) (semOf key) hsrc hdst hsem) k) Q) := by
  unfold some' own' owns
  iintro ⟨#HR, ⟨%fs, %hfs, Hs⟩, ⟨%Y, %fd, %hfd, Hd⟩, Ht⟩ Hk
  iapply (Rounds.wp_copy_pointsTo 𝒱₀ ER (sched m) (c : Thread nD τ) none (κ := K (c, key)) (r := 0) (d := 0) (q := fullShare) (fs := fs) (fd := fd)
    (by rw [duties_cell]; exact hd) () (amtK key) hN (amount_cell m c key 0 0)
    (by
      rw [payload_cell]
      refine BIBase.Entails.trans ?_ hpay
      unfold own' owns
      iintro ⟨Hd, Hs⟩
      isplitl [Hd]
      · iexists (dst.view.write (Elt F) fd (src.view.read (Elt F) fs) Finset.univ); isplitr
        · ipureintro; rw [View.read_write_univ]; exact hfs
        iexact Hd
      · iexists fs; isplitr; · (ipureintro; exact hfs)
        iexact Hs)) $$ [Hs Hd Ht]
  · isplitr; · iapply (recs_inv m K c key); iexact HR
    isplitl [Hs]; · iexact Hs
    isplitl [Hd]; · iexact Hd
    isplitl [Ht]; · iexact Ht
    iapply (recs_reached m K c key); iexact HR
  iexact Hk

/-- A transfer to device `p`: the count it makes there is one the device owes. -/
theorem send_own {sp sp' : Space} {s : Shape} {src : Memref sig .tc sp s .f32} {dst : Memref sig .tc sp' s .f32} (e : Ev) (kS : Key) (S S' : Finset Ev)
    (p q : Dev nD) (hp : p = q) (hq : q = e.dev c) (kR : Key) (hR : kR = e.key) {hsc : dst.view.ref.isScScratch = false}
    {hsrc : src.view.WordExact} {hdst : dst.view.WordExact} {hsem : DmaTarget.Typed (nD := nD) (τ := τ) (p := Proc.tc) sp (semOf kR) (.remote (Dev.tc p : Thread nD τ) dst (semOf kS) hsc)}
    {k : PUnit → Prog (TpuEff nD τ sig (Elt F) Λ₀ .tc) α} (X : s.Idx → Elt F .f32)
    (hN : dst.view.amount (semOf kR) = amtK kR) (hN' : amtK kS = amtK kR) (hd : 0 ∈ dutK kS) (hd' : 0 ∈ dutK kR)
    (hpay : own' c src X ⊢ payK m c kS 0) (hpay' : own' (q) dst X ⊢ payK m (q) kR 0) (he : e ∈ S) (hS : S.erase e = S') :
    iprop(recs m K ∗ own' c src X ∗ some' (q) dst ∗ due c S ∗ dutyTok ER (cell c kS) 0 0 ∗ dutyTok ER (cell (q) kR) 0 0)
      ⊢ iprop((cred (tallyAt (cell c kS) () (amtK kS)) ∗ due c S' -∗ wpc c (k ⟨⟩) Q)
          -∗ wpc c (.op (.enqueueDma src (.remote (Dev.tc p : Thread nD τ) dst (semOf kS) hsc) (semOf kR) hsrc hdst hsem) k) Q) := by
  subst hp hR hq hS
  unfold some' own' owns due
  iintro ⟨#HR, ⟨%fs, %hfs, Hs⟩, ⟨%Y, %fd, %hfd, Hd⟩, ⟨%W, HO⟩, Ht, Ht'⟩ Hk
  rw [hN']
  iapply (Rounds.wp_send_pointsTo 𝒱₀ ER (sched m) (c : Thread nD τ) none (κ₁ := K (c, kS)) (κ₂ := K (e.dev c, e.key)) (r₁ := 0) (r₂ := 0) (d₁ := 0) (d₂ := 0)
    (q := fullShare) (fs := fs) (fd := fd) (by rw [duties_cell]; exact hd) (by rw [duties_cell]; exact hd') () () (amtK e.key) hN
    ((amount_cell m c kS 0 0).trans hN') (amount_cell m (e.dev c) e.key 0 0) (owed c (S.erase e)) (owed_erase c he) (W := W)
    (by
      rw [payload_cell]
      refine BIBase.Entails.trans ?_ hpay
      unfold own' owns
      iintro Hs
      iexists fs; isplitr; · (ipureintro; exact hfs)
      iexact Hs)
    (by
      rw [payload_cell]
      refine BIBase.Entails.trans ?_ hpay'
      unfold own' owns
      iintro Hd
      iexists (dst.view.write (Elt F) fd (src.view.read (Elt F) fs) Finset.univ); isplitr
      · ipureintro; rw [View.read_write_univ]; exact hfs
      iexact Hd)) $$ [Hs Hd HO Ht Ht']
  · isplitr; · iapply (recs_inv m K c kS); iexact HR
    isplitr; · iapply (recs_inv m K (e.dev c) e.key); iexact HR
    isplitl [Hs]; · iexact Hs
    isplitl [Hd]; · iexact Hd
    isplitl [HO]; · iexact HO
    isplitl [Ht]; · iexact Ht
    isplitr; · iapply (recs_reached m K c kS); iexact HR
    isplitl [Ht']; · iexact Ht'
    iapply (recs_reached m K (e.dev c) e.key); iexact HR
  iintro ⟨Hc, HO⟩
  iapply Hk
  isplitl [Hc]; · iexact Hc
  iexists W; iexact HO

/-- A signal to the barrier semaphore of another device, handing over what the barrier's count there is to hand over. -/
theorem signal_own (d : Fin 7) (S S' : Finset Ev) (p : Dev nD) (hp : p = bwd d c) {k : PUnit → Prog (TpuEff nD τ sig (Elt F) Λ₀ .tc) α}
    (he : Ev.bar d ∈ S) (hS : S.erase (.bar d) = S') :
    iprop(recs m K ∗ due c S ∗ dutyTok ER (cell (bwd d c) .bar) 0 d ∗ barPay (bwd d c) d)
      ⊢ iprop((due c S' -∗ wpc c (k ⟨⟩) Q) -∗ wpc c (.op (.semSignal (Dev.tc p : Thread nD τ) barSem 1) k) Q) := by
  subst hp hS
  unfold due
  iintro ⟨#HR, ⟨%W, HO⟩, Ht, Hp⟩ Hk
  iapply (Rounds.wp_signal 𝒱₀ ER (sched m) (c : Thread nD τ) none (dst := (bwd d c : Thread nD τ)) (κ := K (bwd d c, .bar)) (r := 0) (d := d)
    (by rw [show ((bwd d c : Thread nD τ), SemLoc.reg barSem) = cell (bwd d c) .bar from rfl, duties_cell]; exact Finset.mem_univ _)
    (amount_cell m (bwd d c) .bar 0 d) () (owed c (S.erase (.bar d))) (owed_erase c he) (W := W)) $$ [HO Ht Hp]
  · isplitr; · iapply (recs_inv m K (bwd d c) .bar); iexact HR
    isplitl [HO]; · iexact HO
    isplitl [Ht]; · iexact Ht
    isplitl [Hp]
    · rw [show ((bwd d c : Thread nD τ), SemLoc.reg barSem) = cell (bwd d c) .bar from rfl, payload_cell]; unfold payK; iexact Hp
    iapply (recs_reached m K (bwd d c) .bar); iexact HR
  iintro HO
  iapply Hk
  iexists W; iexact HO

/-- A wait for a semaphore's full count, below everything the device still owes: it hands over everything at once, and
    the semaphore ends at zero. -/
theorem wait_own (key : Key) (S : Finset Ev) (N : ℕ) (hN : N = (dutK key).card * amtK key) (n : ℕ) (hn : n = N) (hS : ∀ e ∈ S, lvK key < lvK e.key)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (semOf key) n K')
    {k : PUnit → Prog (TpuEff nD τ sig (Elt F) Λ₀ .tc) α} :
    iprop(recs m K ∗ due c S ∗ cred (tallyAt (cell c key) () N) ∗ atPos ER (cell c key) 0 ∅ 0)
      ⊢ iprop((due c S ∗ semVal (cell c key) 0 ∗ bigSep (dutK key) (payK m c key) -∗ wpc c (k ⟨⟩) Q) -∗ wpc c (.op w k) Q) := by
  subst hn
  unfold due
  iintro ⟨#HR, ⟨%W, HO⟩, Hc, Hat⟩ Hk
  iapply (Rounds.wp_wait_rest_token 𝒱₀ ER (sched m) (c : Thread nD τ) none (κ := K (c, key)) (sm := semOf key) hw (Set.mem_univ _) () (O := owed c S)
    (W := W) (R := 0) (m := 0) (T := ∅) (by rw [Nat.zero_add, hN]; exact (expect_cell m c key).symm)) $$ [HO Hc Hat]
  · isplitr; · iapply (recs_inv m K c key); iexact HR
    isplitl [Hc]; · iexact Hc
    isplitl [HO]; · iexact HO
    isplitr
    · iapply (mayWait_cell c key S hS); iapply (recs_lev m K); iexact HR
    iexact Hat
  iintro ⟨HO, Hat, -, Hpay⟩
  ihave Hp := (Entails.of_eq (rest_cell m c key)) $$ Hpay
  imod (Rounds.cell_close ER (sched m) (Set.mem_univ (K (c, key))) (fun h => h) (R := 0 + 1) (duties_later m (cell c key))) $$ [Hat] with Hz
  · isplitr; · iapply (recs_inv m K c key); iexact HR
    iexact Hat
  iapply Hk
  isplitl [HO]; · (iexists _; iexact HO)
  isplitl [Hz]; · iexact Hz
  iexact Hp

end Dma

end Cert.KernelIdeal.Bfly

end
-- ==== Proof.Body.lean ====
/- The steps of the body, each from what it needs to what it leaves: the loads of the weights, the barrier, one product,
   one exchange of the butterfly and a whole layer of them. -/
module

public import proofs.«01_k».proof.Proof.Moves

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Seven steps in a row -/

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
omit [FloatOps F] in
theorem bigSep_six (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]; rfl
omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide)]; rfl
omit [FloatOps F] in
theorem bigSep_two (Φ : Fin 2 → sProp 𝕄) : bigSep Finset.univ Φ = iprop(Φ 0 ∗ Φ 1) := BI.bigSep_fin_two Φ

/-- Seven steps, the `j`-th taking `T j` to `D j` and the running state from `S j` to `S (j + 1)`, in a row. -/
theorem seven (c : Dev nD) {R : sProp 𝕄} [BI.Persistent R] (S : ℕ → sProp 𝕄) (T D : Fin 7 → sProp 𝕄)
    (e : Fin 7 → Prog (TpuEff nD τ sig (Elt F) Λ₀ .tc) PUnit)
    (h : ∀ (j : Fin 7) {α : Type} (k : PUnit → Prog (TpuEff nD τ sig (Elt F) Λ₀ .tc) α) (Q : α → sProp 𝕄),
      iprop(R ∗ S j.val ∗ T j) ⊢ iprop((S (j.val + 1) ∗ D j -∗ wpc c (k ⟨⟩) Q) -∗ wpc c (e j >>= k) Q))
    {α : Type} (k : PUnit → Prog (TpuEff nD τ sig (Elt F) Λ₀ .tc) α) (Q : α → sProp 𝕄) :
    iprop(R ∗ S 0 ∗ bigSep Finset.univ T)
      ⊢ iprop((S 7 ∗ bigSep Finset.univ D -∗ wpc c (k ⟨⟩) Q)
          -∗ wpc c (e 0 >>= fun _ => e 1 >>= fun _ => e 2 >>= fun _ => e 3 >>= fun _ => e 4 >>= fun _ => e 5 >>= fun _ => e 6 >>= k) Q) := by
  have h (j : Fin 7) (n n' : ℕ) (hn : n = j.val) (hn' : n' = n + 1) {α : Type} (k : PUnit → Prog (TpuEff nD τ sig (Elt F) Λ₀ .tc) α) (Q : α → sProp 𝕄) :
      iprop(R ∗ S n ∗ T j) ⊢ iprop((S n' ∗ D j -∗ wpc c (k ⟨⟩) Q) -∗ wpc c (e j >>= k) Q) := by
    subst hn' hn; exact h j k Q
  rw [bigSep_seven, bigSep_seven]
  iintro ⟨#HR, HS, T0, T1, T2, T3, T4, T5, T6⟩ Hk
  iapply (h 0 0 1 rfl rfl _ Q) $$ [HS T0]
  · isplitr; · iexact HR
    isplitl [HS] <;> iassumption
  iintro ⟨HS, D0⟩
  iapply (h 1 1 2 rfl rfl _ Q) $$ [HS T1]
  · isplitr; · iexact HR
    isplitl [HS] <;> iassumption
  iintro ⟨HS, D1⟩
  iapply (h 2 2 3 rfl rfl _ Q) $$ [HS T2]
  · isplitr; · iexact HR
    isplitl [HS] <;> iassumption
  iintro ⟨HS, D2⟩
  iapply (h 3 3 4 rfl rfl _ Q) $$ [HS T3]
  · isplitr; · iexact HR
    isplitl [HS] <;> iassumption
  iintro ⟨HS, D3⟩
  iapply (h 4 4 5 rfl rfl _ Q) $$ [HS T4]
  · isplitr; · iexact HR
    isplitl [HS] <;> iassumption
  iintro ⟨HS, D4⟩
  iapply (h 5 5 6 rfl rfl _ Q) $$ [HS T5]
  · isplitr; · iexact HR
    isplitl [HS] <;> iassumption
  iintro ⟨HS, D5⟩
  iapply (h 6 6 7 rfl rfl _ Q) $$ [HS T6]
  · isplitr; · iexact HR
    isplitl [HS] <;> iassumption
  iintro ⟨HS, D6⟩
  iapply Hk
  isplitl [HS]; · iexact HS
  isplitl [D0]; · iexact D0
  isplitl [D1]; · iexact D1
  isplitl [D2]; · iexact D2
  isplitl [D3]; · iexact D3
  isplitl [D4]; · iexact D4
  isplitl [D5] <;> iassumption

/-! ## What the printed arithmetic computes -/

abbrev upAcc (v : FVec F S32x1024 .f32) : FVec F S1x32x1024 .f32 := shapeCast S1x32x1024 v shapeCasts_S32x1024_S1x32x1024
theorem castWin : S1024x2048.ShapeCasts S1x1024x2048 := shapeCasts_S1x1024x2048_S1024x2048.symm
theorem castWout : S2048x1024.ShapeCasts S1x2048x1024 := shapeCasts_S1x2048x1024_S2048x1024.symm
theorem castBfly : S32x1024.ShapeCasts S1x1x1x32x1024 := shapeCasts_S1x1x1x32x1024_S32x1024.symm
theorem castRs : S8x1024.ShapeCasts S1x8x1024 := shapeCasts_S1x8x1024_S8x1024.symm

theorem pay2_eq (x : FVec F S32x1024 .f32) (wi : FVec F S1024x2048 .f32) (wo : FVec F S2048x1024 .f32) :
    shapeCast S32x1024 (k0_pay2 x (shapeCast S1x1024x2048 wi castWin) (shapeCast S1x2048x1024 wo castWout)) shapeCasts_S1x32x1024_S32x1024 = mlp x wi wo := by
  unfold k0_pay2 mlp; simp only [shapeCast_shapeCast, shapeCast_self]
theorem pay13_eq (x : FVec F S32x1024 .f32) (wi : FVec F S1024x2048 .f32) (wo : FVec F S2048x1024 .f32) :
    shapeCast S32x1024 (k0_pay13 (upAcc x) (shapeCast S1x1024x2048 wi castWin) (shapeCast S1x2048x1024 wo castWout)) shapeCasts_S1x32x1024_S32x1024 = mlp x wi wo := by
  unfold k0_pay13 mlp upAcc; simp only [shapeCast_shapeCast, shapeCast_self]
theorem pay21_eq (x : FVec F S32x1024 .f32) (wi : FVec F S1024x2048 .f32) (wo : FVec F S2048x1024 .f32) :
    k0_pay21 (upAcc x) (shapeCast S1x1024x2048 wi castWin) (shapeCast S1x2048x1024 wo castWout) = mlp x wi wo := by
  unfold k0_pay21 mlp upAcc; simp only [shapeCast_shapeCast, shapeCast_self]
theorem pay4_eq (v w : FVec F S32x1024 .f32) :
    shapeCast S32x1024 (k0_pay4 (upAcc v) (shapeCast S1x1x1x32x1024 w castBfly)) shapeCasts_S1x32x1024_S32x1024 = addf v w := by
  unfold k0_pay4 upAcc; simp only [shapeCast_shapeCast]
theorem pay1_eq (v r0 r1 r2 r3 r4 r5 r6 : FVec F S8x1024 .f32) :
    k0_pay1 (k0_pay23 v (shapeCast S1x8x1024 r0 castRs) (shapeCast S1x8x1024 r1 castRs) (shapeCast S1x8x1024 r2 castRs) (shapeCast S1x8x1024 r3 castRs)
      (shapeCast S1x8x1024 r4 castRs) (shapeCast S1x8x1024 r5 castRs)) (shapeCast S1x8x1024 r6 castRs)
      = addf (addf (addf (addf (addf (addf (addf v r0) r1) r2) r3) r4) r5) r6 := by
  unfold k0_pay1 k0_pay23; simp only [shapeCast_shapeCast]

/-- A transfer's amount is its shape's: the running sums' blocks and their landing slots, -/
theorem credit_acc (b : Fin 2) (l : Fin 2) (s : Fin 3) : (accB b).view.dmaCredit = (bflyB l s b).view.dmaCredit := by
  show sig.dmaCredit .tc _ _ S32x1024 .f32 = sig.dmaCredit .tc _ _ S32x1024 .f32
  rfl
/-- and eight rows of the last product and theirs. -/
theorem credit_rows (off : Fin 2 → ℕ) (h : ∀ a, off a + S8x1024.size a ≤ S64x1024.size a) (j : Fin 7) :
    (rowsAt off h).view.dmaCredit = (rsB j).view.dmaCredit := by
  show sig.dmaCredit .tc _ _ S8x1024 .f32 = sig.dmaCredit .tc _ _ S8x1024 .f32
  rfl

section Steps
variable (K : Dev nD × Key → ℕ) (c : Dev nD) {α : Type} (k : PUnit → Prog (TpuEff nD τ sig (Elt F) Λ₀ .tc) α)
  (Q : α → sProp (MT nD τ sig Unit (Elt F) ℕ UU ℕ))

/-! ## The loads of the weights -/

/-- A layer's weights in their arrays, with the two loads' tokens. -/
def wld0 (l : Fin 3) : sProp 𝕄 :=
  iprop(own' c (wiM l) (WI m l c) ∗ own' c (woM l) (WO m l c) ∗ dutyTok ER (cell c (.wi l)) 0 0 ∗ dutyTok ER (cell c (.wo l)) 0 0)
/-- The loads under way, -/
def wld1 (l : Fin 3) : sProp 𝕄 :=
  iprop(cred (tallyAt (cell c (.wi l)) () (amtK (.wi l))) ∗ cred (tallyAt (cell c (.wo l)) () (amtK (.wo l))))
/-- and done. -/
def wld2 (l : Fin 3) : sProp 𝕄 :=
  iprop(own' c (wiM l) (WI m l c) ∗ own' c (woM l) (WO m l c) ∗ semVal (cell c (.wi l)) 0 ∗ semVal (cell c (.wo l)) 0)
def wpos (l : Fin 3) : sProp 𝕄 := iprop(atPos ER (cell c (.wi l)) 0 ∅ 0 ∗ atPos ER (cell c (.wo l)) 0 ∅ 0)

theorem loadW_run (l : Fin 3) {h : (wiM l).IsWhole} {h' : (woM l).IsWhole} :
    iprop(recs m K ∗ wld0 m c l ∗ some' c (winB (slot l)) ∗ some' c (woutB (slot l)))
      ⊢ iprop((wld1 c l -∗ wpc c (k ⟨⟩) Q) -∗ wpc c (loadW (wiM l) h (woM l) h' (nWI l) (nWO l) (slot l) >>= k) Q) := by
  unfold loadW wld0 wld1
  simp only [Prog.lift, Prog.bind_op, Prog.bind_ret]
  iintro ⟨#HR, ⟨Hi, Ho, Ti, To⟩, Hwi, Hwo⟩ Hk
  iapply (copy_own m K c (.wi l) (WI m l c) rfl (Finset.mem_singleton_self _) .rfl) $$ [Hi Hwi Ti]
  · isplitr; · iexact HR
    isplitl [Hi]; · iexact Hi
    isplitl [Hwi] <;> iassumption
  iintro Ci
  iapply (copy_own m K c (.wo l) (WO m l c) rfl (Finset.mem_singleton_self _) .rfl) $$ [Ho Hwo To]
  · isplitr; · iexact HR
    isplitl [Ho]; · iexact Ho
    isplitl [Hwo] <;> iassumption
  iintro Co
  iapply Hk
  isplitl [Ci] <;> iassumption

theorem waitW_run (l : Fin 3) (S : Finset Ev) (hS : ∀ e ∈ S, 0 < lvK e.key) {h : (wiM l).IsWhole} {h' : (woM l).IsWhole} :
    iprop(recs m K ∗ due c S ∗ wld1 c l ∗ wpos c l)
      ⊢ iprop((due c S ∗ wld2 m c l ∗ own' c (winB (slot l)) (WI m l c) ∗ own' c (woutB (slot l)) (WO m l c) -∗ wpc c (k ⟨⟩) Q)
          -∗ wpc c (waitW (wiM l) h (woM l) h' (nWI l) (nWO l) (slot l) >>= k) Q) := by
  unfold waitW wld1 wld2 wpos
  simp only [Prog.lift, Prog.bind_op, Prog.bind_ret]
  iintro ⟨#HR, HO, ⟨Ci, Co⟩, Pi, Po⟩ Hk
  iapply (wait_own m K c (.wi l) S (amtK (.wi l)) (by simp [dutK]) _ rfl hS (wpE_waitDma2_eq 𝒱₀ (c : Thread nD τ) none Set.univ)) $$ [HO Ci Pi]
  · isplitr; · iexact HR
    isplitl [HO]; · iexact HO
    isplitl [Ci] <;> iassumption
  iintro ⟨HO, Zi, Hp⟩
  ihave Hp := (show bigSep (dutK (.wi l)) (payK m c (.wi l)) ⊢ iprop(own' c (winB (slot l)) (WI m l c) ∗ own' c (wiM l) (WI m l c)) from
    Entails.of_eq (bigSep_singleton)) $$ Hp
  icases Hp with ⟨Hwi, Hi⟩
  iapply (wait_own m K c (.wo l) S (amtK (.wo l)) (by simp [dutK]) _ rfl hS (wpE_waitDma2_eq 𝒱₀ (c : Thread nD τ) none Set.univ)) $$ [HO Co Po]
  · isplitr; · iexact HR
    isplitl [HO]; · iexact HO
    isplitl [Co] <;> iassumption
  iintro ⟨HO, Zo, Hp⟩
  ihave Hp := (show bigSep (dutK (.wo l)) (payK m c (.wo l)) ⊢ iprop(own' c (woutB (slot l)) (WO m l c) ∗ own' c (woM l) (WO m l c)) from
    Entails.of_eq (bigSep_singleton)) $$ Hp
  icases Hp with ⟨Hwo, Ho⟩
  iapply Hk
  isplitl [HO]; · iexact HO
  isplitl [Hi Ho Zi Zo]
  · isplitl [Hi]; · iexact Hi
    isplitl [Ho]; · iexact Ho
    isplitl [Zi] <;> iassumption
  isplitl [Hwi] <;> iassumption

/-! ## The barrier -/

/-- What a signal to the device `d + 1` places back needs. -/
def barT (d : Fin 7) : sProp 𝕄 := iprop(dutyTok ER (cell (bwd d c) .bar) 0 d ∗ barPay (F := F) (bwd d c) d)

theorem signal_run (i : Fin 7) (p : Dev nD) (hp : p = bwd i.rev c) :
    iprop(recs m K ∗ due c (from' i.val) ∗ barT c i.rev)
      ⊢ iprop((due c (from' (i.val + 1)) ∗ emp -∗ wpc c (k ⟨⟩) Q) -∗ wpc c (signal p >>= k) Q) := by
  unfold signal semSignalWord barT
  rw [show (1#32 : BitVec 32).toInt = ((1 : ℕ) : ℤ) from by decide]
  simp only [Prog.lift, Prog.bind_op, Prog.bind_ret]
  iintro ⟨#HR, HO, Ht, Hp⟩ Hk
  iapply (signal_own m K c i.rev _ _ p hp (from'_bar i).1 (from'_bar i).2) $$ [HO Ht Hp]
  · isplitr; · iexact HR
    isplitl [HO]; · iexact HO
    isplitl [Ht] <;> iassumption
  iintro HO
  iapply Hk
  isplitl [HO]; · iexact HO
  iempintro

/-- What comes through the barrier: where the device's transfers land on the others. -/
def got : sProp 𝕄 :=
  iprop((bigSep Finset.univ fun j : Fin 7 => some' (F := F) (fwd j c) (rsB j)) ∗ bigSep Finset.univ fun s : Fin 3 => slots (F := F) (partner s c) s)

omit [FloatOps F] in
theorem bigSep_one {I : Type} [Fintype I] [DecidableEq I] (i : I) (Φ : I → sProp 𝕄) :
    bigSep Finset.univ (fun j => if j = i then Φ j else iprop(emp)) = Φ i := by
  rw [← show bigSep (Finset.univ.filter (· = i)) Φ = bigSep Finset.univ (fun j => if j = i then Φ j else iprop(emp)) from bigSep_filter _ _ _,
    Finset.filter_eq' , if_pos (Finset.mem_univ i), bigSep_singleton]

omit [FloatOps F] in
/-- The seven counts together hand over each peer's landing slot, and each stage's four slots on the partner there. -/
theorem barPay_got : bigSep Finset.univ (barPay (F := F) c) ⊢ got (F := F) c := by
  unfold barPay got
  rw [bigSep_sep']
  refine sep_mono .rfl (Entails.of_eq ?_)
  rw [bigSep_univ_comm]
  refine bigSep_congr fun s _ => ?_
  rw [bigSep_one (dist s c) (fun d => slots (F := F) (fwd d c) s), fwd_dist]

theorem barrier_run :
    iprop(recs m K ∗ due c (from' 0) ∗ (bigSep Finset.univ (barT (F := F) c)) ∗ cred (tallyAt (cell c .bar) () 7) ∗ atPos ER (cell c .bar) 0 ∅ 0)
      ⊢ iprop((due c (from' 7) ∗ semVal (cell c .bar) 0 ∗ got c -∗ wpc c (k ⟨⟩) Q) -∗ wpc c (barrier c >>= k) Q) := by
  unfold barrier
  simp only [bind_assoc]
  iintro ⟨#HR, HO, HT, Hc, Hat⟩ Hk
  ihave HT := (show bigSep Finset.univ (barT (F := F) c) ⊢ bigSep Finset.univ (fun i : Fin 7 => barT (F := F) c i.rev) from
    Entails.of_eq (bigSep_univ_equiv Fin.revPerm (barT (F := F) c))) $$ HT
  iapply (seven (R := recs m K) c (fun n => due c (from' n)) (fun i => barT c i.rev) (fun _ => iprop(emp))
    (fun i => signal (match i with
      | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
      | 4 => ⟨k0_dev5 c, k0_dev5_lt c⟩ | 5 => ⟨k0_dev6 c, k0_dev6_lt c⟩ | 6 => ⟨k0_dev7 c, k0_dev7_lt c⟩))
    (fun i {α} k Q => signal_run m K c k Q i _ (by
      fin_cases i
      · exact Fin.ext ((k0_dev1_eq c).trans (by revert c; decide))
      · exact Fin.ext ((k0_dev2_eq c).trans (by revert c; decide))
      · exact Fin.ext ((k0_dev3_eq c).trans (by revert c; decide))
      · exact Fin.ext ((k0_dev4_eq c).trans (by revert c; decide))
      · exact Fin.ext ((k0_dev5_eq c).trans (by revert c; decide))
      · exact Fin.ext ((k0_dev6_eq c).trans (by revert c; decide))
      · exact Fin.ext ((k0_dev7_eq c).trans (by revert c; decide)))) _ Q) $$ [HO HT]
  · isplitr; · iexact HR
    isplitl [HO]; · iexact HO
    iexact HT
  iintro ⟨HO, -⟩
  unfold semWaitWord
  rw [show (7#32 : BitVec 32).toInt = ((7 : ℕ) : ℤ) from by decide]
  simp only [Prog.bind_op, Prog.bind_ret]
  iapply (wait_own m K c .bar (from' 7) 7 (by decide) _ rfl (by decide +kernel) (wpE_semWait_eq 𝒱₀ (c : Thread nD τ) none Set.univ)) $$ [HO Hc Hat]
  · isplitr; · iexact HR
    isplitl [HO]; · iexact HO
    isplitl [Hc] <;> iassumption
  iintro ⟨HO, Hz, Hp⟩
  iapply Hk
  isplitl [HO]; · iexact HO
  isplitl [Hz]; · iexact Hz
  iapply (barPay_got c); iexact Hp

/-! ## The products -/

/-- The weights a product reads. -/
def wts (b : Fin 2) (l : Fin 3) : sProp 𝕄 := iprop(own' c (winB b) (WI m l c) ∗ own' c (woutB b) (WO m l c))
/-- The input block in its staging buffer. -/
def xown : sProp 𝕄 := iprop((c : Thread nD τ).loc cc0_stg0_0 ↦{fullShare} xstg m c)

theorem mul0_run (b : Fin 2) :
    iprop((wts m c 0 0 ∗ xown m c) ∗ some' c (accB b))
      ⊢ iprop(((wts m c 0 0 ∗ xown m c) ∗ own' c (accB b) (A m 0 0 b c) -∗ wpc c (k ⟨⟩) Q) -∗ wpc c (mul0 b >>= k) Q) := by
  unfold mul0 ldWin ldWout ldAcc stAcc wts xown some'
  simp only [Prog.lift, Prog.bind_op, Prog.bind_ret, bind_assoc]
  iintro ⟨⟨⟨Hi, Ho⟩, Hx⟩, ⟨%X, Ha⟩⟩ Hk
  iapply (wp_load_rect 𝒱₀ (c : Thread nD τ) none Set.univ (m := xM) (r := rHalf b) (f := xstg m c) (S := Finset.univ) (Finset.subset_univ _)) $$ Hx; iintro Hx
  iapply (ld_own c winM (rWin 0) (fun _ => rfl) squeezes_S1x1024x2048_S1024x2048 castWin (WI m 0 c)) $$ Hi; iintro Hi
  iapply (ld_own c woutM (rWout 0) (fun _ => rfl) squeezes_S1x2048x1024_S2048x1024 castWout (WO m 0 c)) $$ Ho; iintro Ho
  iapply (ld_own c accM (rAcc b) (fun _ => rfl) squeezes_S1x32x1024_S32x1024 shapeCasts_S32x1024_S1x32x1024 X) $$ Ha; iintro Ha
  iapply (st_own c accM (rAcc b) (fun _ => rfl) squeezes_S1x32x1024_S32x1024 shapeCasts_S1x32x1024_S32x1024 _ X) $$ Ha; iintro Ha
  iapply Hk
  isplitr [Ha]
  · isplitl [Hi Ho]
    · isplitl [Hi] <;> iassumption
    iexact Hx
  rw [show A m 0 0 b c = mlp (xHalf m b c) (WI m 0 c) (WO m 0 c) from rfl, ← pay2_eq]
  iexact Ha

theorem mul1_run (b : Fin 2) :
    iprop(wts m c 1 1 ∗ own' c (accB b) (A m 0 3 b c))
      ⊢ iprop((wts m c 1 1 ∗ own' c (accB b) (A m 1 0 b c) -∗ wpc c (k ⟨⟩) Q) -∗ wpc c (mul1 b >>= k) Q) := by
  unfold mul1 ldWin ldWout ldAcc stAcc wts
  simp only [Prog.lift, Prog.bind_op, Prog.bind_ret, bind_assoc]
  iintro ⟨⟨Hi, Ho⟩, Ha⟩ Hk
  iapply (ld_own c accM (rAcc b) (fun _ => rfl) squeezes_S1x32x1024_S32x1024 shapeCasts_S32x1024_S1x32x1024 (A m 0 3 b c)) $$ Ha; iintro Ha
  iapply (ld_own c winM (rWin 1) (fun _ => rfl) squeezes_S1x1024x2048_S1024x2048 castWin (WI m 1 c)) $$ Hi; iintro Hi
  iapply (ld_own c woutM (rWout 1) (fun _ => rfl) squeezes_S1x2048x1024_S2048x1024 castWout (WO m 1 c)) $$ Ho; iintro Ho
  iapply (ld_own c accM (rAcc b) (fun _ => rfl) squeezes_S1x32x1024_S32x1024 shapeCasts_S32x1024_S1x32x1024 (A m 0 3 b c)) $$ Ha; iintro Ha
  iapply (st_own c accM (rAcc b) (fun _ => rfl) squeezes_S1x32x1024_S32x1024 shapeCasts_S1x32x1024_S32x1024 _ (A m 0 3 b c)) $$ Ha; iintro Ha
  iapply Hk
  isplitr [Ha]
  · isplitl [Hi] <;> iassumption
  rw [show A m 1 0 b c = mlp (A m 0 3 b c) (WI m 1 c) (WO m 1 c) from rfl, ← pay13_eq]
  iexact Ha

/-! ## The exchanges -/

/-- What one exchange needs before it starts, -/
def kit0 (l : Fin 2) (s : Fin 3) (b : Fin 2) : sProp 𝕄 :=
  iprop(dutyTok ER (cell c (.bs l s b)) 0 0 ∗ dutyTok ER (cell (partner s c) (.br l s b)) 0 0 ∗ some' (F := F) (partner s c) (bflyB l s b)
    ∗ cred (tallyAt (cell c (.br l s b)) () (amtK (.br l s b))) ∗ atPos ER (cell c (.bs l s b)) 0 ∅ 0 ∗ atPos ER (cell c (.br l s b)) 0 ∅ 0)
/-- what it holds under way, -/
def kit1 (l : Fin 2) (s : Fin 3) (b : Fin 2) : sProp 𝕄 :=
  iprop(cred (tallyAt (cell c (.bs l s b)) () (amtK (.bs l s b)))
    ∗ cred (tallyAt (cell c (.br l s b)) () (amtK (.br l s b))) ∗ atPos ER (cell c (.bs l s b)) 0 ∅ 0 ∗ atPos ER (cell c (.br l s b)) 0 ∅ 0)
/-- and what it leaves. -/
def kit2 (l : Fin 2) (s : Fin 3) (b : Fin 2) : sProp 𝕄 :=
  iprop(semVal (cell c (.bs l s b)) 0 ∗ semVal (cell c (.br l s b)) 0 ∗ some' (F := F) c (bflyB l s b))

theorem bstart_run (l : Fin 2) (s : Fin 3) (b : Fin 2) (p : Dev nD) (hp : p = partner s c) (n : ℕ) (hn : n = rank (.br l s b)) (n' : ℕ) (hn' : n' = n + 1)
    (s₀ : ℕ) (hs : s₀ = s.val) :
    iprop(recs m K ∗ due c (from' n) ∗ kit0 c l s b ∗ own' c (accB b) (A m l s₀ b c))
      ⊢ iprop((due c (from' n') ∗ kit1 c l s b -∗ wpc c (k ⟨⟩) Q) -∗ wpc c (bstart p l s b >>= k) Q) := by
  subst hn' hs
  unfold bstart kit0 kit1
  simp only [Prog.lift, Prog.bind_op, Prog.bind_ret]
  iintro ⟨#HR, HO, ⟨Ts, Tr, Hd, Cr, Ps, Pr⟩, Ha⟩ Hk
  iapply (send_own m K c (.br l s b) (.bs l s b) (from' n) (from' (n + 1)) p (partner s c) hp rfl (.br l s b) rfl (A m l s b c) rfl rfl (Finset.mem_singleton_self _) (Finset.mem_singleton_self _)
    .rfl (by show own' (partner s c) (bflyB l s b) (A m l s b c) ⊢ own' (partner s c) (bflyB l s b) (A m l s b (partner s (partner s c))); rw [partner_partner])
    (by rw [hn]; exact (from'_br l s b).1) (by rw [hn]; exact (from'_br l s b).2)) $$ [HO Ts Tr Hd Ha]
  · isplitr; · iexact HR
    isplitl [Ha]; · iexact Ha
    isplitl [Hd]; · iexact Hd
    isplitl [HO]; · iexact HO
    isplitl [Ts] <;> iassumption
  iintro ⟨Cs, HO⟩
  iapply Hk
  isplitl [HO]; · iexact HO
  isplitl [Cs]; · iexact Cs
  isplitl [Cr]; · iexact Cr
  isplitl [Ps] <;> iassumption

theorem badd_run (l : Fin 2) (s : Fin 3) (b : Fin 2) (S : Finset Ev) (hS : ∀ e ∈ S, 2 + 3 * l.val + s.val < lvK e.key) (s' : ℕ) (hs : s' = s.val + 1) :
    iprop(recs m K ∗ due c S ∗ kit1 c l s b)
      ⊢ iprop((due c S ∗ kit2 c l s b ∗ own' c (accB b) (A m l s' b c) -∗ wpc c (k ⟨⟩) Q) -∗ wpc c (badd l s b >>= k) Q) := by
  subst hs
  unfold badd kit1 kit2 ldAcc stAcc
  simp only [Prog.lift, Prog.bind_op, Prog.bind_ret]
  iintro ⟨#HR, HO, Cs, Cr, Ps, Pr⟩ Hk
  iapply (wait_own m K c (.bs l s b) S (amtK (.bs l s b)) (by simp [dutK]) (accB b).view.dmaCredit (credit_acc b l s) (fun e he => Nat.lt_of_le_of_lt (Nat.zero_le _) (hS e he))
    (wpE_waitDma2_eq 𝒱₀ (c : Thread nD τ) none Set.univ)) $$ [HO Cs Ps]
  · isplitr; · iexact HR
    isplitl [HO]; · iexact HO
    isplitl [Cs] <;> iassumption
  iintro ⟨HO, Zs, Hp⟩
  ihave Ha := (show bigSep (dutK (.bs l s b)) (payK m c (.bs l s b)) ⊢ own' c (accB b) (A m l s b c) from Entails.of_eq bigSep_singleton) $$ Hp
  iapply (wait_own m K c (.br l s b) S (amtK (.br l s b)) (by simp [dutK]) _ rfl hS
    (wpE_waitDma2_eq 𝒱₀ (c : Thread nD τ) none Set.univ)) $$ [HO Cr Pr]
  · isplitr; · iexact HR
    isplitl [HO]; · iexact HO
    isplitl [Cr] <;> iassumption
  iintro ⟨HO, Zr, Hp⟩
  ihave Hb := (show bigSep (dutK (.br l s b)) (payK m c (.br l s b)) ⊢ own' c (bflyB l s b) (A m l s b (partner s c)) from Entails.of_eq bigSep_singleton) $$ Hp
  iapply (ld_own c accM (rAcc b) (fun _ => rfl) squeezes_S1x32x1024_S32x1024 shapeCasts_S32x1024_S1x32x1024 (A m l s b c)) $$ Ha; iintro Ha
  iapply (ld_own c bflyM (rBfly l s b) (fun _ => rfl) squeezes_S1x1x1x32x1024_S32x1024 castBfly (A m l s b (partner s c))) $$ Hb; iintro Hb
  iapply (ld_own c accM (rAcc b) (fun _ => rfl) squeezes_S1x32x1024_S32x1024 shapeCasts_S32x1024_S1x32x1024 (A m l s b c)) $$ Ha; iintro Ha
  iapply (st_own c accM (rAcc b) (fun _ => rfl) squeezes_S1x32x1024_S32x1024 shapeCasts_S1x32x1024_S32x1024 _ (A m l s b c)) $$ Ha; iintro Ha
  iapply Hk
  isplitl [HO]; · iexact HO
  isplitl [Zs Zr Hb]
  · isplitl [Zs]; · iexact Zs
    isplitl [Zr]; · iexact Zr
    unfold some'; iexists _; iexact Hb
  rw [show A m l (s.val + 1) b c = addf (A m l s b c) (A m l s b (partner s c)) from rfl, ← pay4_eq]
  iexact Ha

/-- Below the counts still to come at a place of layer `l`, the counts of stage `s`: the place is past that stage's starts. -/
theorem lvl_lt : ∀ (l : Fin 2) (s : Fin 3) (n : Fin 7), 2 * s.val + 2 ≤ n.val →
    ∀ e ∈ from' (7 + 6 * l.val + n.val), 2 + 3 * l.val + s.val < lvK e.key := by decide +kernel

/-- A layer: from each block's product to three stages of exchanges of it. -/
theorem layer_run (l : Fin 2) (mul : Fin 2 → Prog (TpuEff nD τ sig (Elt F) Λ₀ .tc) PUnit) (p : Fin 3 → Fin 2 → Dev nD)
    (hp : ∀ s b, p s b = partner s c) (W : sProp (MT nD τ sig Unit (Elt F) ℕ UU ℕ)) (P : Fin 2 → sProp (MT nD τ sig Unit (Elt F) ℕ UU ℕ))
    (hmul : ∀ (b : Fin 2) {α : Type} (k : PUnit → Prog (TpuEff nD τ sig (Elt F) Λ₀ .tc) α) (Q : α → sProp (MT nD τ sig Unit (Elt F) ℕ UU ℕ)),
      iprop(W ∗ P b) ⊢ iprop((W ∗ own' c (accB b) (A m l 0 b c) -∗ wpc c (k ⟨⟩) Q) -∗ wpc c (mul b >>= k) Q))
    (n n' : ℕ) (hn : n = 7 + 6 * l.val) (hn' : n' = n + 6) :
    iprop(recs m K ∗ due c (from' n) ∗ W ∗ P 0 ∗ P 1 ∗ bigSep Finset.univ fun sb : Fin 3 × Fin 2 => kit0 (F := F) c l sb.1 sb.2)
      ⊢ iprop((due c (from' n') ∗ W ∗ own' c (accB 0) (A m l 3 0 c) ∗ own' c (accB 1) (A m l 3 1 c)
            ∗ (bigSep Finset.univ fun sb : Fin 3 × Fin 2 => kit2 (F := F) c l sb.1 sb.2) -∗ wpc c (k ⟨⟩) Q)
          -∗ wpc c (layer l mul p >>= k) Q) := by
  subst hn hn'
  unfold layer
  simp only [bind_assoc]
  rw [bigSep_six, bigSep_six]
  iintro ⟨#HR, HO, HW, P0, P1, K00, K01, K10, K11, K20, K21⟩ Hk
  iapply (hmul 0 _ Q) $$ [HW P0]
  · isplitl [HW] <;> iassumption
  iintro ⟨HW, A0⟩
  iapply (bstart_run m K c _ Q l 0 0 _ (hp 0 0) _ rfl (7 + 6 * l.val + 1) rfl 0 rfl) $$ [HO K00 A0]
  · isplitr; · iexact HR
    isplitl [HO]; · iexact HO
    isplitl [K00] <;> iassumption
  iintro ⟨HO, K00⟩
  iapply (hmul 1 _ Q) $$ [HW P1]
  · isplitl [HW] <;> iassumption
  iintro ⟨HW, A1⟩
  iapply (bstart_run m K c _ Q l 0 1 _ (hp 0 1) _ rfl (7 + 6 * l.val + 2) rfl 0 rfl) $$ [HO K01 A1]
  · isplitr; · iexact HR
    isplitl [HO]; · iexact HO
    isplitl [K01] <;> iassumption
  iintro ⟨HO, K01⟩
  iapply (badd_run m K c _ Q l 0 0 _ (lvl_lt l 0 2 (by decide)) 1 rfl) $$ [HO K00]
  · isplitr; · iexact HR
    isplitl [HO] <;> iassumption
  iintro ⟨HO, K00, A0⟩
  iapply (bstart_run m K c _ Q l 1 0 _ (hp 1 0) _ rfl (7 + 6 * l.val + 3) rfl 1 rfl) $$ [HO K10 A0]
  · isplitr; · iexact HR
    isplitl [HO]; · iexact HO
    isplitl [K10] <;> iassumption
  iintro ⟨HO, K10⟩
  iapply (badd_run m K c _ Q l 0 1 _ (lvl_lt l 0 3 (by decide)) 1 rfl) $$ [HO K01]
  · isplitr; · iexact HR
    isplitl [HO] <;> iassumption
  iintro ⟨HO, K01, A1⟩
  iapply (bstart_run m K c _ Q l 1 1 _ (hp 1 1) _ rfl (7 + 6 * l.val + 4) rfl 1 rfl) $$ [HO K11 A1]
  · isplitr; · iexact HR
    isplitl [HO]; · iexact HO
    isplitl [K11] <;> iassumption
  iintro ⟨HO, K11⟩
  iapply (badd_run m K c _ Q l 1 0 _ (lvl_lt l 1 4 (by decide)) 2 rfl) $$ [HO K10]
  · isplitr; · iexact HR
    isplitl [HO] <;> iassumption
  iintro ⟨HO, K10, A0⟩
  iapply (bstart_run m K c _ Q l 2 0 _ (hp 2 0) _ rfl (7 + 6 * l.val + 5) rfl 2 rfl) $$ [HO K20 A0]
  · isplitr; · iexact HR
    isplitl [HO]; · iexact HO
    isplitl [K20] <;> iassumption
  iintro ⟨HO, K20⟩
  iapply (badd_run m K c _ Q l 1 1 _ (lvl_lt l 1 5 (by decide)) 2 rfl) $$ [HO K11]
  · isplitr; · iexact HR
    isplitl [HO] <;> iassumption
  iintro ⟨HO, K11, A1⟩
  iapply (bstart_run m K c _ Q l 2 1 _ (hp 2 1) _ rfl (7 + 6 * l.val + 6) rfl 2 rfl) $$ [HO K21 A1]
  · isplitr; · iexact HR
    isplitl [HO]; · iexact HO
    isplitl [K21] <;> iassumption
  iintro ⟨HO, K21⟩
  iapply (badd_run m K c _ Q l 2 0 _ (lvl_lt l 2 6 (by decide)) 3 rfl) $$ [HO K20]
  · isplitr; · iexact HR
    isplitl [HO] <;> iassumption
  iintro ⟨HO, K20, A0⟩
  iapply (badd_run m K c _ Q l 2 1 _ (lvl_lt l 2 6 (by decide)) 3 rfl) $$ [HO K21]
  · isplitr; · iexact HR
    isplitl [HO] <;> iassumption
  iintro ⟨HO, K21, A1⟩
  iapply Hk
  isplitl [HO]; · iexact HO
  isplitl [HW]; · iexact HW
  isplitl [A0]; · iexact A0
  isplitl [A1]; · iexact A1
  isplitl [K00]; · iexact K00
  isplitl [K01]; · iexact K01
  isplitl [K10]; · iexact K10
  isplitl [K11]; · iexact K11
  isplitl [K20] <;> iassumption

end Steps

end Cert.KernelIdeal.Bfly

end
-- ==== Proof.Scatter.lean ====
/- The last layer and the reduce-scatter: the last product, its rows' pieces sent to their devices, the waits and the
   final sums. -/
module

public import proofs.«01_k».proof.Proof.Body
public import Idealize.ShloMosaic.Lib.Ring

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The rows of the last product -/

theorem half_val (p : Dev nD) : (half p).val = p.val / 4 := rfl

/-- A half's rows are its four devices' eight rows each. -/
theorem rows_half (b : Fin 2) : ((Finset.univ.filter fun p : Dev nD => half p = b).biUnion fun p => (flatM.view.slice (rRow p)).set) = (flatM.access (rHalf b)).set := by
  have e : ∀ r : Rect S64x1024, (flatM.view.slice r).set = r.set := fun r => by rw [View.set_slice]; exact Finset.map_refl
  have e' : (flatM.access (rHalf b)).set = (rHalf b).set := e _
  rw [e', Finset.biUnion_congr rfl fun p _ => e (rRow p)]
  ext i
  have h1 : (i 1).val < 1024 := (i 1).isLt
  have h0 : (i 0).val < 64 := (i 0).isLt
  simp only [Finset.mem_biUnion, Finset.mem_filter, Finset.mem_univ, true_and, Rect.mem_set_unit, Fin.forall_fin_two,
    show S8x1024.size 0 = 8 from rfl, show S8x1024.size 1 = 1024 from rfl, show S32x1024.size 0 = 32 from rfl, show S32x1024.size 1 = 1024 from rfl,
    Matrix.cons_val_zero, Matrix.cons_val_one]
  constructor
  · rintro ⟨p, hp, h⟩
    have := congrArg Fin.val hp
    rw [half_val] at this
    omega
  · rintro ⟨⟨h, h'⟩, -⟩
    refine ⟨⟨(i 0).val / 8, by show _ < 8; omega⟩, Fin.ext ?_, ?_⟩
    · rw [half_val]; show (i 0).val / 8 / 4 = b.val; omega
    · show (8 * ((i 0).val / 8) ≤ (i 0).val ∧ (i 0).val < 8 * ((i 0).val / 8) + 8) ∧ _
      omega

theorem rows_disj (p p' : Dev nD) (h : p ≠ p') : Disjoint (rRow p).set (rRow p').set := by
  rw [Finset.disjoint_left]
  intro i hi hi'
  have hi := (Rect.mem_set_unit.mp hi) 0
  have hi' := (Rect.mem_set_unit.mp hi') 0
  simp only [show S8x1024.size 0 = 8 from rfl, Matrix.cons_val_zero] at hi hi'
  exact h (Fin.ext (by omega))

theorem rows_disj' (p p' : Dev nD) (h : p ≠ p') : Disjoint (flatM.view.slice (rRow p)).set (flatM.view.slice (rRow p')).set := by
  rw [View.set_slice, View.set_slice]; exact (Finset.disjoint_map _).mpr (rows_disj p p' h)

/-- A half's rows at contents nobody knows, and at the last product's. -/
def rowsT (c : Dev nD) (b : Fin 2) : sProp 𝕄 := bigSep (Finset.univ.filter fun p : Dev nD => half p = b) fun p => some' (F := F) c (rowP p)
def rowsD (c : Dev nD) (b : Fin 2) : sProp 𝕄 := bigSep (Finset.univ.filter fun p : Dev nD => half p = b) fun p => own' c (rowP p) (piece m c p)

omit [FloatOps F] in
theorem some_rows (c : Dev nD) (p : Dev nD) : some' (F := F) c (rowP p) ⊢ iprop(∃ f, flatM.view.loc (c : Thread nD τ) ↦[(flatM.view.slice (rRow p)).set]{fullShare} f) := by
  unfold some' own' owns
  iintro ⟨%X, %f, -, H⟩; iexists f; iexact H

theorem rows_join (c : Dev nD) (b : Fin 2) :
    rowsT (F := F) c b ⊢ iprop(∃ g, flatM.view.loc (c : Thread nD τ) ↦[(flatM.access (rHalf b)).set]{fullShare} g) := by
  unfold rowsT
  have : Nonempty (Buf (Elt F) (flatM.view.loc (c : Thread nD τ))) := ⟨fun _ => FloatOps.ofBits .f32 0⟩
  refine (bigSep_mono fun p _ => some_rows c p).trans ?_
  refine (bigSep_exists_pi _ (fun (p : Dev nD) (f : Buf (Elt F) (flatM.view.loc (c : Thread nD τ))) =>
    (flatM.view.loc (c : Thread nD τ) ↦[(flatM.view.slice (rRow p)).set]{fullShare} f : sProp 𝕄))).trans ?_
  iintro ⟨%fs, H⟩
  ihave H := (pointsTo_biUnion_join _ (fun p : Dev nD => (flatM.view.slice (rRow p)).set) fs (Classical.arbitrary _)
    (fun p _ p' _ h => rows_disj' p p' h)) $$ H
  icases H with ⟨%g, -, H⟩
  iexists g
  rw [rows_half]; iexact H

theorem rows_split (c : Dev nD) (b : Fin 2) (g : Buf (Elt F) (flatM.view.loc (c : Thread nD τ))) :
    iprop(flatM.view.loc (c : Thread nD τ) ↦[(flatM.access (rHalf b)).set]{fullShare} ((flatM.access (rHalf b)).write (Elt F) g (lastP m b c) Finset.univ))
      ⊢ rowsD m c b := by
  unfold rowsD
  rw [← rows_half, pointsTo_biUnion _ _ (fun p _ p' _ h => rows_disj' p p' h)]
  refine Entails.of_eq (bigSep_congr fun p hp => ?_)
  have hb : half p = b := (Finset.mem_filter.mp hp).2
  rw [← owns_slice_read (c : Thread nD τ) flatM fullShare (rRow p) (fun _ => rfl)]
  unfold own' piece
  refine congrArg (owns (c : Thread nD τ) (rowP p) fullShare) (funext fun j => ?_)
  rw [hb]
  have e : (rRow p).emb j = (rHalf b).emb ((rIn p).emb j) := by
    have hv := congrArg Fin.val hb
    rw [half_val] at hv
    funext a
    refine Fin.ext ?_
    show (![8 * p.val, 0] : Fin 2 → ℕ) a + 1 * (j a).val = (![32 * b.val, 0] : Fin 2 → ℕ) a + 1 * ((![8 * (p.val % 4), 0] : Fin 2 → ℕ) a + 1 * (j a).val)
    have hp8 : p.val < 8 := p.isLt
    have : ∀ a : Fin 2, (![8 * p.val, 0] : Fin 2 → ℕ) a = (![32 * b.val, 0] : Fin 2 → ℕ) a + (![8 * (p.val % 4), 0] : Fin 2 → ℕ) a := by
      rw [Fin.forall_fin_two]; refine ⟨?_, rfl⟩; show 8 * p.val = 32 * b.val + 8 * (p.val % 4); omega
    rw [this a]; omega
  rw [e]
  exact View.read_write_of_mem (v := flatM.access (rHalf b)) g (lastP m b c) (Finset.mem_univ _)

/-- Over all devices: the device itself and the seven others. -/
def peerE (c : Dev nD) : Unit ⊕ Fin 7 ≃ Dev nD where
  toFun | .inl _ => c | .inr j => fwd j c
  invFun p := if h : p = c then .inl () else .inr ⟨(p.val + 8 - c.val) % 8 - 1, by revert p c; decide⟩
  left_inv := by revert c; decide
  right_inv := by revert c; decide

omit [FloatOps F] in
theorem bigSep_peers (c : Dev nD) (Φ : Dev nD → sProp 𝕄) :
    bigSep Finset.univ Φ = iprop(Φ c ∗ bigSep Finset.univ fun j : Fin 7 => Φ (fwd j c)) := by
  rw [bigSep_univ_equiv (peerE c) Φ, bigSep_univ_sum]
  rw [show (Finset.univ : Finset Unit) = {()} from rfl, bigSep_singleton]; rfl

omit [FloatOps F] in
/-- Split by which half a device's rows are in. -/
theorem bigSep_halves {I : Type} (s : Finset I) (h : I → Fin 2) (Φ : I → sProp 𝕄) :
    bigSep s Φ = iprop((bigSep s fun i => if h i = 0 then Φ i else iprop(emp)) ∗ bigSep s fun i => if h i = 1 then Φ i else iprop(emp)) := by
  rw [← bigSep_sep']
  refine bigSep_congr fun i _ => ?_
  have : h i = 0 ∨ h i = 1 := by generalize h i = x; revert x; decide
  rcases this with e | e
  · rw [e, if_pos rfl, if_neg (by decide)]; exact BI.equiv_iff.mp ⟨sep_emp.2, sep_emp.1⟩
  · rw [e, if_pos rfl, if_neg (by decide)]; exact BI.equiv_iff.mp ⟨emp_sep.2, emp_sep.1⟩

section Steps
variable (K : Dev nD × Key → ℕ) (c : Dev nD) {α : Type} (k : PUnit → Prog (TpuEff nD τ sig (Elt F) Λ₀ .tc) α)
  (Q : α → sProp (MT nD τ sig Unit (Elt F) ℕ UU ℕ))

/-- The last product of a block: from the sum it is of to the rows it fills. -/
theorem mul2_run (b : Fin 2) :
    iprop(wts m c 0 2 ∗ own' c (accB b) (A m 1 3 b c) ∗ rowsT (F := F) c b)
      ⊢ iprop((wts m c 0 2 ∗ own' c (accB b) (A m 1 3 b c) ∗ rowsD m c b -∗ wpc c (k ⟨⟩) Q) -∗ wpc c (mul2 b >>= k) Q) := by
  unfold mul2 ldWin ldWout ldAcc wts
  simp only [Prog.lift, Prog.bind_op, Prog.bind_ret, bind_assoc]
  iintro ⟨⟨Hi, Ho⟩, Ha, HR⟩ Hk
  ihave HR := (rows_join c b) $$ HR
  icases HR with ⟨%g, HR⟩
  iapply (ld_own c accM (rAcc b) (fun _ => rfl) squeezes_S1x32x1024_S32x1024 shapeCasts_S32x1024_S1x32x1024 (A m 1 3 b c)) $$ Ha; iintro Ha
  iapply (ld_own c winM (rWin 0) (fun _ => rfl) squeezes_S1x1024x2048_S1024x2048 castWin (WI m 2 c)) $$ Hi; iintro Hi
  iapply (ld_own c woutM (rWout 0) (fun _ => rfl) squeezes_S1x2048x1024_S2048x1024 castWout (WO m 2 c)) $$ Ho; iintro Ho
  iapply (wp_load_rect 𝒱₀ (c : Thread nD τ) none Set.univ (m := flatM) (r := rHalf b) (f := g) (S := (flatM.access (rHalf b)).set) subset_rfl) $$ HR; iintro HR
  iapply (wp_store 𝒱₀ (c : Thread nD τ) none Set.univ (m := flatM) (r := rHalf b) (Mk := Finset.univ) (f := g) (S := (flatM.access (rHalf b)).set) subset_rfl) $$ HR; iintro HR
  iapply Hk
  isplitl [Hi Ho]
  · isplitl [Hi] <;> iassumption
  isplitl [Ha]; · iexact Ha
  iapply (rows_split m c b g)
  rw [show lastP m b c = mlp (A m 1 3 b c) (WI m 2 c) (WO m 2 c) from rfl, ← pay21_eq]
  iexact HR

/-! ## The pieces sent -/

/-- What sending piece `j` needs besides the piece, -/
def rtok (j : Fin 7) : sProp 𝕄 :=
  iprop(dutyTok ER (cell c (.ss j)) 0 0 ∗ dutyTok ER (cell (fwd j c) (.sr j)) 0 0 ∗ some' (F := F) (fwd j c) (rsB j))
/-- and what it leaves. -/
def rcred (j : Fin 7) : sProp 𝕄 := cred (tallyAt (cell c (.ss j)) () (amtK (.ss j)))

theorem rstart_run (b : Fin 2) (j : Fin 7) (cnd : BitVec 1) (off : Fin 2 → ℕ) (hoff : cnd = 1#1 → ∀ a, off a + S8x1024.size a ≤ S64x1024.size a)
    (p : ℕ) (hp : cnd = 1#1 → p < nD) (hc : cnd = 1#1 ↔ half (fwd j c) = b) (ho : off = ![8 * (fwd j c).val, 0]) (hpv : p = (fwd j c).val) :
    iprop(recs m K ∗ due c (fromR c b j.val)
        ∗ ((if half (fwd j c) = b then rtok (F := F) c j else iprop(emp)) ∗ (if half (fwd j c) = b then own' c (rowP (fwd j c)) (piece m c (fwd j c)) else iprop(emp))))
      ⊢ iprop((due c (fromR c b (j.val + 1)) ∗ (if half (fwd j c) = b then rcred (F := F) c j else iprop(emp)) -∗ wpc c (k ⟨⟩) Q)
          -∗ wpc c (rstart cnd off hoff p hp j >>= k) Q) := by
  subst ho hpv
  rw [rstart_bind]
  by_cases h : cnd = 1#1
  · have hb := hc.mp h
    rw [dif_pos h, if_pos hb, if_pos hb, if_pos hb]
    unfold rtok rcred
    simp only [Prog.lift, Prog.bind_op, Prog.bind_ret]
    iintro ⟨#HR, HO, ⟨Ts, Tr, Hd⟩, Hs⟩ Hk
    iapply (send_own m K c (.sr j) (.ss j) (fromR c b j.val) (fromR c b (j.val + 1)) (fwd j c) (fwd j c) rfl rfl (.sr j) rfl (piece m c (fwd j c)) rfl rfl
      (Finset.mem_singleton_self _) (Finset.mem_singleton_self _) .rfl
      (by show own' (fwd j c) (rsB j) (piece m c (fwd j c)) ⊢ own' (fwd j c) (rsB j) (piece m (bwd j (fwd j c)) (fwd j c)); rw [bwd_fwd])
      (fromR_sr c b j hb).1 (fromR_sr c b j hb).2) $$ [HO Ts Tr Hd Hs]
    · isplitr; · iexact HR
      isplitl [Hs]; · iexact Hs
      isplitl [Hd]; · iexact Hd
      isplitl [HO]; · iexact HO
      isplitl [Ts] <;> iassumption
    iintro ⟨Cs, HO⟩
    iapply Hk
    isplitl [HO] <;> iassumption
  · have hb : ¬ half (fwd j c) = b := fun e => h (hc.mpr e)
    rw [dif_neg h, if_neg hb, if_neg hb, if_neg hb, fromR_skip c b j hb]
    iintro ⟨-, HO, -⟩ Hk
    iapply Hk
    isplitl [HO]; · iexact HO
    iempintro

/-- A pass over the seven peers, sending each whose rows are in half `b` its piece. -/
theorem starts_run (b : Fin 2) (e : Fin 7 → Prog (TpuEff nD τ sig (Elt F) Λ₀ .tc) PUnit)
    (he : ∀ j, ∃ (cnd : BitVec 1) (off : Fin 2 → ℕ) (hoff : cnd = 1#1 → ∀ a, off a + S8x1024.size a ≤ S64x1024.size a)
      (p : ℕ) (hp : cnd = 1#1 → p < nD), e j = rstart cnd off hoff p hp j ∧ (cnd = 1#1 ↔ half (fwd j c) = b) ∧ off = ![8 * (fwd j c).val, 0] ∧ p = (fwd j c).val) :
    iprop(recs m K ∗ due c (fromR c b 0) ∗ (bigSep Finset.univ fun j : Fin 7 => if half (fwd j c) = b then rtok (F := F) c j else iprop(emp)) ∗ rowsD m c b)
      ⊢ iprop((due c (fromR c b 7) ∗ (bigSep Finset.univ fun j : Fin 7 => if half (fwd j c) = b then rcred (F := F) c j else iprop(emp))
            ∗ (if half c = b then own' c (rowP c) (piece m c c) else iprop(emp)) -∗ wpc c (k ⟨⟩) Q)
          -∗ wpc c (e 0 >>= fun _ => e 1 >>= fun _ => e 2 >>= fun _ => e 3 >>= fun _ => e 4 >>= fun _ => e 5 >>= fun _ => e 6 >>= k) Q) := by
  unfold rowsD
  rw [bigSep_filter, bigSep_peers c]
  iintro ⟨#HR, HO, HT, Hown, Hrows⟩ Hk
  iapply (seven (R := recs m K) c (fun n => due c (fromR c b n))
    (fun j => iprop((if half (fwd j c) = b then rtok (F := F) c j else iprop(emp)) ∗ (if half (fwd j c) = b then own' c (rowP (fwd j c)) (piece m c (fwd j c)) else iprop(emp))))
    (fun j => if half (fwd j c) = b then rcred (F := F) c j else iprop(emp)) e
    (fun j {α} k Q => by
      obtain ⟨cnd, off, hoff, p, hp, e1, e2, e3, e4⟩ := he j
      rw [e1]; exact rstart_run m K c k Q b j cnd off hoff p hp e2 e3 e4) k Q) $$ [HO HT Hrows]
  · isplitr; · iexact HR
    isplitl [HO]; · iexact HO
    rw [bigSep_sep']
    isplitl [HT] <;> iassumption
  iintro ⟨HO, HC⟩
  iapply Hk
  isplitl [HO]; · iexact HO
  isplitl [HC] <;> iassumption

theorem starts0_run :
    iprop(recs m K ∗ due c (fromR c 0 0) ∗ (bigSep Finset.univ fun j : Fin 7 => if half (fwd j c) = 0 then rtok (F := F) c j else iprop(emp)) ∗ rowsD m c 0)
      ⊢ iprop((due c (fromR c 0 7) ∗ (bigSep Finset.univ fun j : Fin 7 => if half (fwd j c) = 0 then rcred (F := F) c j else iprop(emp))
            ∗ (if half c = 0 then own' c (rowP c) (piece m c c) else iprop(emp)) -∗ wpc c (k ⟨⟩) Q) -∗ wpc c (starts0 c >>= k) Q) := by
  unfold starts0
  simp only [bind_assoc]
  exact starts_run m K c k Q 0 (fun j => match j with
      | 0 => rstart (k0_cond1 c) (k0_off1 c) (k0_off1_inb c) (k0_dev20 c) (k0_dev20_lt c) 0
      | 1 => rstart (k0_cond2 c) (k0_off2 c) (k0_off2_inb c) (k0_dev21 c) (k0_dev21_lt c) 1
      | 2 => rstart (k0_cond3 c) (k0_off3 c) (k0_off3_inb c) (k0_dev22 c) (k0_dev22_lt c) 2
      | 3 => rstart (k0_cond4 c) (k0_off4 c) (k0_off4_inb c) (k0_dev23 c) (k0_dev23_lt c) 3
      | 4 => rstart (k0_cond5 c) (k0_off5 c) (k0_off5_inb c) (k0_dev24 c) (k0_dev24_lt c) 4
      | 5 => rstart (k0_cond6 c) (k0_off6 c) (k0_off6_inb c) (k0_dev25 c) (k0_dev25_lt c) 5
      | 6 => rstart (k0_cond7 c) (k0_off7 c) (k0_off7_inb c) (k0_dev26 c) (k0_dev26_lt c) 6)
    (fun j => by
      fin_cases j
      · exact ⟨_, _, _, _, _, rfl, by revert c; decide +kernel, k0_off1_eq c, k0_dev20_eq c⟩
      · exact ⟨_, _, _, _, _, rfl, by revert c; decide +kernel, k0_off2_eq c, k0_dev21_eq c⟩
      · exact ⟨_, _, _, _, _, rfl, by revert c; decide +kernel, k0_off3_eq c, k0_dev22_eq c⟩
      · exact ⟨_, _, _, _, _, rfl, by revert c; decide +kernel, k0_off4_eq c, k0_dev23_eq c⟩
      · exact ⟨_, _, _, _, _, rfl, by revert c; decide +kernel, k0_off5_eq c, k0_dev24_eq c⟩
      · exact ⟨_, _, _, _, _, rfl, by revert c; decide +kernel, k0_off6_eq c, k0_dev25_eq c⟩
      · exact ⟨_, _, _, _, _, rfl, by revert c; decide +kernel, k0_off7_eq c, k0_dev26_eq c⟩)

theorem starts1_run :
    iprop(recs m K ∗ due c (fromR c 1 0) ∗ (bigSep Finset.univ fun j : Fin 7 => if half (fwd j c) = 1 then rtok (F := F) c j else iprop(emp)) ∗ rowsD m c 1)
      ⊢ iprop((due c (fromR c 1 7) ∗ (bigSep Finset.univ fun j : Fin 7 => if half (fwd j c) = 1 then rcred (F := F) c j else iprop(emp))
            ∗ (if half c = 1 then own' c (rowP c) (piece m c c) else iprop(emp)) -∗ wpc c (k ⟨⟩) Q) -∗ wpc c (starts1 c >>= k) Q) := by
  unfold starts1
  simp only [bind_assoc]
  exact starts_run m K c k Q 1 (fun j => match j with
      | 0 => rstart (k0_cond8 c) (k0_off8 c) (k0_off8_inb c) (k0_dev27 c) (k0_dev27_lt c) 0
      | 1 => rstart (k0_cond9 c) (k0_off9 c) (k0_off9_inb c) (k0_dev28 c) (k0_dev28_lt c) 1
      | 2 => rstart (k0_cond10 c) (k0_off10 c) (k0_off10_inb c) (k0_dev29 c) (k0_dev29_lt c) 2
      | 3 => rstart (k0_cond11 c) (k0_off11 c) (k0_off11_inb c) (k0_dev30 c) (k0_dev30_lt c) 3
      | 4 => rstart (k0_cond12 c) (k0_off12 c) (k0_off12_inb c) (k0_dev31 c) (k0_dev31_lt c) 4
      | 5 => rstart (k0_cond13 c) (k0_off13 c) (k0_off13_inb c) (k0_dev32 c) (k0_dev32_lt c) 5
      | 6 => rstart (k0_cond14 c) (k0_off14 c) (k0_off14_inb c) (k0_dev33 c) (k0_dev33_lt c) 6)
    (fun j => by
      fin_cases j
      · exact ⟨_, _, _, _, _, rfl, by revert c; decide +kernel, k0_off8_eq c, k0_dev27_eq c⟩
      · exact ⟨_, _, _, _, _, rfl, by revert c; decide +kernel, k0_off9_eq c, k0_dev28_eq c⟩
      · exact ⟨_, _, _, _, _, rfl, by revert c; decide +kernel, k0_off10_eq c, k0_dev29_eq c⟩
      · exact ⟨_, _, _, _, _, rfl, by revert c; decide +kernel, k0_off11_eq c, k0_dev30_eq c⟩
      · exact ⟨_, _, _, _, _, rfl, by revert c; decide +kernel, k0_off12_eq c, k0_dev31_eq c⟩
      · exact ⟨_, _, _, _, _, rfl, by revert c; decide +kernel, k0_off13_eq c, k0_dev32_eq c⟩
      · exact ⟨_, _, _, _, _, rfl, by revert c; decide +kernel, k0_off14_eq c, k0_dev33_eq c⟩)

/-! ## The waits and the sums -/

theorem rwaitS_run (j : Fin 7) (w : BitVec 32) (h : ∀ a, (k0_off15 c w) a + S8x1024.size a ≤ S64x1024.size a) :
    iprop(recs m K ∗ due c ∅ ∗ (rcred (F := F) c j ∗ atPos ER (cell c (.ss j)) 0 ∅ 0))
      ⊢ iprop((due c ∅ ∗ (semVal (cell c (.ss j)) 0 ∗ own' c (rowP (fwd j c)) (piece m c (fwd j c))) -∗ wpc c (k ⟨⟩) Q) -∗ wpc c (rwaitS c w h j >>= k) Q) := by
  unfold rwaitS rcred
  simp only [Prog.lift, Prog.bind_op, Prog.bind_ret]
  iintro ⟨#HR, HO, Cs, Ps⟩ Hk
  iapply (wait_own m K c (.ss j) ∅ (amtK (.ss j)) (by simp [dutK]) (rowsAt (k0_off15 c w) h).view.dmaCredit (credit_rows _ _ j) (fun e he => absurd he (Finset.notMem_empty e))
    (wpE_waitDma2_eq 𝒱₀ (c : Thread nD τ) none Set.univ)) $$ [HO Cs Ps]
  · isplitr; · iexact HR
    isplitl [HO]; · iexact HO
    isplitl [Cs] <;> iassumption
  iintro ⟨HO, Zs, Hp⟩
  ihave Ha := (show bigSep (dutK (.ss j)) (payK m c (.ss j)) ⊢ own' c (rowP (fwd j c)) (piece m c (fwd j c)) from Entails.of_eq bigSep_singleton) $$ Hp
  iapply Hk
  isplitl [HO]; · iexact HO
  isplitl [Zs] <;> iassumption

theorem rwaitR_run (j : Fin 7) (w : BitVec 32) (h : ∀ a, (k0_off15 c w) a + S8x1024.size a ≤ S64x1024.size a) :
    iprop(recs m K ∗ due c ∅ ∗ (cred (tallyAt (cell c (.sr j)) () (amtK (.sr j))) ∗ atPos ER (cell c (.sr j)) 0 ∅ 0))
      ⊢ iprop((due c ∅ ∗ (semVal (cell c (.sr j)) 0 ∗ own' c (rsB j) (piece m (bwd j c) c)) -∗ wpc c (k ⟨⟩) Q) -∗ wpc c (rwaitR c w h j >>= k) Q) := by
  unfold rwaitR
  simp only [Prog.lift, Prog.bind_op, Prog.bind_ret]
  iintro ⟨#HR, HO, Cs, Ps⟩ Hk
  iapply (wait_own m K c (.sr j) ∅ (amtK (.sr j)) (by simp [dutK]) _ rfl (fun e he => absurd he (Finset.notMem_empty e))
    (wpE_waitDma2_eq 𝒱₀ (c : Thread nD τ) none Set.univ)) $$ [HO Cs Ps]
  · isplitr; · iexact HR
    isplitl [HO]; · iexact HO
    isplitl [Cs] <;> iassumption
  iintro ⟨HO, Zs, Hp⟩
  ihave Ha := (show bigSep (dutK (.sr j)) (payK m c (.sr j)) ⊢ own' c (rsB j) (piece m (bwd j c) c) from Entails.of_eq bigSep_singleton) $$ Hp
  iapply Hk
  isplitl [HO]; · iexact HO
  isplitl [Zs] <;> iassumption

theorem waits_run :
    iprop(recs m K ∗ due c ∅ ∗ (bigSep Finset.univ fun j : Fin 7 => iprop(rcred (F := F) c j ∗ atPos ER (cell c (.ss j)) 0 ∅ 0))
        ∗ (bigSep Finset.univ fun j : Fin 7 => iprop(cred (tallyAt (cell c (.sr j)) () (amtK (.sr j))) ∗ atPos ER (cell c (.sr j)) 0 ∅ 0)))
      ⊢ iprop((due c ∅ ∗ (bigSep Finset.univ fun j : Fin 7 => iprop(semVal (cell c (.ss j)) 0 ∗ own' c (rowP (fwd j c)) (piece m c (fwd j c))))
          ∗ (bigSep Finset.univ fun j : Fin 7 => iprop(semVal (cell c (.sr j)) 0 ∗ own' c (rsB j) (piece m (bwd j c) c))) -∗ wpc c (k ⟨⟩) Q) -∗ wpc c (waits c >>= k) Q) := by
  unfold waits
  simp only [bind_assoc]
  iintro ⟨#HR, HO, HS, HT⟩ Hk
  iapply (seven (R := recs m K) c (fun _ => due c ∅) (fun j => iprop(rcred (F := F) c j ∗ atPos ER (cell c (.ss j)) 0 ∅ 0))
    (fun j => iprop(semVal (cell c (.ss j)) 0 ∗ own' c (rowP (fwd j c)) (piece m c (fwd j c))))
    (fun j => rwaitS c (BitVec.ofNat 32 (1 + j.val)) (k0_off15_inb c j) j)
    (fun j {α} k Q => rwaitS_run m K c k Q j _ _) _ Q) $$ [HO HS]
  · isplitr; · iexact HR
    isplitl [HO]; · iexact HO
    iexact HS
  iintro ⟨HO, HS⟩
  iapply (seven (R := recs m K) c (fun _ => due c ∅) (fun j => iprop(cred (tallyAt (cell c (.sr j)) () (amtK (.sr j))) ∗ atPos ER (cell c (.sr j)) 0 ∅ 0))
    (fun j => iprop(semVal (cell c (.sr j)) 0 ∗ own' c (rsB j) (piece m (bwd j c) c)))
    (fun j => rwaitR c (BitVec.ofNat 32 (1 + j.val)) (k0_off15_inb c j) j)
    (fun j {α} k Q => rwaitR_run m K c k Q j _ _) k Q) $$ [HO HT]
  · isplitr; · iexact HR
    isplitl [HO]; · iexact HO
    iexact HT
  iintro ⟨HO, HT⟩
  iapply Hk
  isplitl [HO]; · iexact HO
  isplitl [HS]; · iexact HS
  iexact HT

/-- A load of the device's own eight rows. -/
theorem ld_rows (off : Fin 2 → ℕ) (h : ∀ a, off a + S8x1024.size a ≤ S64x1024.size a) (ho : off = ![8 * c.val, 0])
    {hl : flatM.view.LoadsAt (Rect.unit (s := S64x1024) off S8x1024.size h).toLoadRect} (X : S8x1024.Idx → Elt F .f32)
    {k : (S8x1024.Idx → Elt F .f32) → Prog (TpuEff nD τ sig (Elt F) Λ₀ .tc) α} :
    own' c (rowP c) X
      ⊢ iprop((own' c (rowP c) X -∗ wpc c (k X) Q) -∗ wpc c (.op (.load flatM (Rect.unit (s := S64x1024) off S8x1024.size h).toLoadRect hl) k) Q) := by
  subst ho
  unfold own' owns
  iintro ⟨%f, %hf, H⟩ Hk
  iapply (wp_load_rect 𝒱₀ (c : Thread nD τ) none Set.univ (m := flatM) (r := rRow c) (f := f) (S := (rowP c).view.set) subset_rfl) $$ H
  iintro H
  rw [show (flatM.access (rRow c)).read (Elt F) f = X from hf]
  iapply Hk
  iexists f
  isplitr; · (ipureintro; exact hf)
  iexact H

theorem ldRs_run (j : Fin 7) (X : S8x1024.Idx → Elt F .f32) {k : Vec F S1x8x1024 .f32 → Prog (TpuEff nD τ sig (Elt F) Λ₀ .tc) α} :
    own' c (rsB j) X ⊢ iprop((own' c (rsB j) X -∗ wpc c (k (shapeCast S1x8x1024 X castRs)) Q) -∗ wpc c (ldRs j >>= k) Q) := by
  unfold ldRs
  simp only [Prog.lift, Prog.bind_op, Prog.bind_ret]
  exact ld_own c rsM (rRs j) (fun _ => rfl) squeezes_S1x8x1024_S8x1024 castRs X

theorem finish_run (f : Buf (Elt F) ((c : Thread nD τ).loc cc0_stg1_0)) :
    iprop(own' c (rowP c) (piece m c c) ∗ (bigSep Finset.univ fun j : Fin 7 => own' c (rsB j) (piece m (bwd j c) c)) ∗ ((c : Thread nD τ).loc cc0_stg1_0 ↦{fullShare} f))
      ⊢ iprop((own' c (rowP c) (piece m c c) ∗ (bigSep Finset.univ fun j : Fin 7 => own' c (rsB j) (piece m (bwd j c) c))
            ∗ ((c : Thread nD τ).loc cc0_stg1_0 ↦{fullShare} (outV m c : Buf (Elt F) ((c : Thread nD τ).loc cc0_stg1_0))) -∗ wpc c (k ⟨⟩) Q) -∗ wpc c (finish c >>= k) Q) := by
  unfold finish
  simp only [bind_assoc]
  rw [bigSep_seven]
  iintro ⟨Hr, ⟨H0, H1, H2, H3, H4, H5, H6⟩, Hout⟩ Hk
  simp only [Prog.lift, Prog.bind_op, Prog.bind_ret]
  iapply (ld_rows c Q _ _ (k0_off16_eq c) (piece m c c)) $$ Hr; iintro Hr
  iapply (ldRs_run c Q 0 (piece m (bwd 0 c) c)) $$ H0; iintro H0
  iapply (ldRs_run c Q 1 (piece m (bwd 1 c) c)) $$ H1; iintro H1
  iapply (ldRs_run c Q 2 (piece m (bwd 2 c) c)) $$ H2; iintro H2
  iapply (ldRs_run c Q 3 (piece m (bwd 3 c) c)) $$ H3; iintro H3
  iapply (ldRs_run c Q 4 (piece m (bwd 4 c) c)) $$ H4; iintro H4
  iapply (ldRs_run c Q 5 (piece m (bwd 5 c) c)) $$ H5; iintro H5
  iapply (ldRs_run c Q 6 (piece m (bwd 6 c) c)) $$ H6; iintro H6
  iapply (wp_load_rect 𝒱₀ (c : Thread nD τ) none Set.univ (m := outM) (r := Rect.unit (s := S8x1024) ![0, 0] S8x1024.size inb_S8x1024_S8x1024_0_0) (f := f) (S := Finset.univ)
    (Finset.subset_univ _)) $$ Hout; iintro Hout
  iapply (wp_store 𝒱₀ (c : Thread nD τ) none Set.univ (m := outM) (r := Rect.unit (s := S8x1024) ![0, 0] S8x1024.size inb_S8x1024_S8x1024_0_0) (Mk := Finset.univ) (f := f) (S := Finset.univ)
    (Finset.subset_univ _)) $$ Hout; iintro Hout
  iapply Hk
  isplitl [Hr]; · iexact Hr
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  rw [pay1_eq]
  have e : ∀ w : S8x1024.Idx → Elt F .f32,
      View.write (Elt F) (outM.access (Rect.unit (s := S8x1024) ![0, 0] S8x1024.size inb_S8x1024_S8x1024_0_0)) f w Finset.univ = w :=
    fun w => Memref.write_access_unit_zero_univ (Elt F) cc0_stg1_0 (by funext a; fin_cases a <;> rfl) _ f w
  rw [e]
  iexact Hout

end Steps

end Cert.KernelIdeal.Bfly

end
-- ==== Proof.Whole.lean ====
/- The body from its start to its end: the steps in a row, from what a device holds when the launch begins to what it
   holds at the end. -/
module

public import proofs.«01_k».proof.Proof.Scatter

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the names -/

omit [FloatOps F] in
theorem sep_assoc_eq (P R S : sProp 𝕄) : iprop((P ∗ R) ∗ S) = iprop(P ∗ R ∗ S) := BI.equiv_iff.mp
  ⟨(show iprop((P ∗ R) ∗ S) ⊢ iprop(P ∗ R ∗ S) from by
      iintro ⟨⟨H1, H2⟩, H3⟩
      isplitl [H1]; · iexact H1
      isplitl [H2] <;> iassumption),
    (show iprop(P ∗ R ∗ S) ⊢ iprop((P ∗ R) ∗ S) from by
      iintro ⟨H1, H2, H3⟩
      isplitr [H3]
      · isplitl [H1] <;> iassumption
      iexact H3)⟩

omit [FloatOps F] in
/-- Over all names: kind by kind. -/
theorem bigSep_keys (Φ : Key → sProp 𝕄) : bigSep Finset.univ Φ =
    iprop(Φ .bar ∗ (bigSep Finset.univ fun l => Φ (.wi l)) ∗ (bigSep Finset.univ fun l => Φ (.wo l))
      ∗ (bigSep Finset.univ fun x : Fin 2 × Fin 3 × Fin 2 => Φ (.bs x.1 x.2.1 x.2.2)) ∗ (bigSep Finset.univ fun x : Fin 2 × Fin 3 × Fin 2 => Φ (.br x.1 x.2.1 x.2.2))
      ∗ (bigSep Finset.univ fun j => Φ (.ss j)) ∗ bigSep Finset.univ fun j => Φ (.sr j)) := by
  rw [bigSep_univ_equiv keyE Φ, bigSep_univ_sum, bigSep_univ_sum, bigSep_univ_sum, bigSep_univ_sum, bigSep_univ_sum, bigSep_univ_sum,
    show (Finset.univ : Finset Unit) = {()} from rfl, bigSep_singleton]
  rfl

omit [FloatOps F] in
/-- Over all exchanges: layer by layer, -/
theorem bigSep_layers (Φ : Fin 2 → Fin 3 → Fin 2 → sProp 𝕄) :
    (bigSep Finset.univ fun x : Fin 2 × Fin 3 × Fin 2 => Φ x.1 x.2.1 x.2.2)
      = iprop((bigSep Finset.univ fun sb : Fin 3 × Fin 2 => Φ 0 sb.1 sb.2) ∗ bigSep Finset.univ fun sb : Fin 3 × Fin 2 => Φ 1 sb.1 sb.2) := by
  rw [bigSep_univ_prod, bigSep_two]

omit [FloatOps F] in
/-- and stage by stage. -/
theorem bigSep_stages (Φ : Fin 2 → Fin 3 → Fin 2 → sProp 𝕄) :
    (bigSep Finset.univ fun x : Fin 2 × Fin 3 × Fin 2 => Φ x.1 x.2.1 x.2.2)
      = bigSep Finset.univ fun s : Fin 3 => bigSep Finset.univ fun lb : Fin 2 × Fin 2 => Φ lb.1 s lb.2 := by
  rw [bigSep_univ_prod, show (fun s : Fin 3 => bigSep Finset.univ fun lb : Fin 2 × Fin 2 => Φ lb.1 s lb.2)
      = fun s => bigSep Finset.univ fun l => bigSep Finset.univ fun b => Φ l s b from funext fun s => bigSep_univ_prod _]
  rw [bigSep_congr (fun l _ => bigSep_univ_prod (fun sb : Fin 3 × Fin 2 => Φ l sb.1 sb.2)), bigSep_univ_comm]

section Steps
variable (K : Dev nD × Key → ℕ) (c : Dev nD) {α : Type} (k : PUnit → Prog (TpuEff nD τ sig (Elt F) Λ₀ .tc) α)
  (Q : α → sProp (MT nD τ sig Unit (Elt F) ℕ UU ℕ))

/-! ## What a device holds -/

/-- The weights in their arrays, -/
def wt : sProp 𝕄 := bigSep Finset.univ fun l : Fin 3 => iprop(own' c (wiM l) (WI m l c) ∗ own' c (woM l) (WO m l c))
/-- the kernel's own buffers, in the blocks the steps use them in, -/
def bufs : sProp 𝕄 :=
  iprop((bigSep Finset.univ fun b : Fin 2 => some' (F := F) c (winB b)) ∗ (bigSep Finset.univ fun b : Fin 2 => some' (F := F) c (woutB b))
    ∗ (bigSep Finset.univ fun b : Fin 2 => some' (F := F) c (accB b)) ∗ (bigSep Finset.univ fun p : Dev nD => some' (F := F) c (rowP p))
    ∗ (bigSep Finset.univ fun x : Fin 2 × Fin 3 × Fin 2 => some' (F := F) c (bflyB x.1 x.2.1 x.2.2))
    ∗ bigSep Finset.univ fun j : Fin 7 => some' (F := F) c (rsB j))
/-- its place at each of its semaphores, -/
def pos : sProp 𝕄 := bigSep Finset.univ fun k : Key => atPos ER (cell c k) 0 ∅ 0
/-- the tokens of the counts it adds, -/
def toks : sProp 𝕄 :=
  iprop((bigSep Finset.univ fun d : Fin 7 => dutyTok ER (cell (bwd d c) .bar) 0 d)
    ∗ (bigSep Finset.univ fun l : Fin 3 => dutyTok ER (cell c (.wi l)) 0 0) ∗ (bigSep Finset.univ fun l : Fin 3 => dutyTok ER (cell c (.wo l)) 0 0)
    ∗ (bigSep Finset.univ fun x : Fin 2 × Fin 3 × Fin 2 => dutyTok ER (cell c (.bs x.1 x.2.1 x.2.2)) 0 0)
    ∗ (bigSep Finset.univ fun x : Fin 2 × Fin 3 × Fin 2 => dutyTok ER (cell (partner x.2.1 c) (.br x.1 x.2.1 x.2.2)) 0 0)
    ∗ (bigSep Finset.univ fun j : Fin 7 => dutyTok ER (cell c (.ss j)) 0 0) ∗ bigSep Finset.univ fun j : Fin 7 => dutyTok ER (cell (fwd j c) (.sr j)) 0 0)
/-- and the credits of the counts it will be sent. -/
def creds : sProp 𝕄 :=
  iprop(cred (tallyAt (cell c .bar) () 7)
    ∗ (bigSep Finset.univ fun x : Fin 2 × Fin 3 × Fin 2 => cred (tallyAt (cell c (.br x.1 x.2.1 x.2.2)) () (amtK (.br x.1 x.2.1 x.2.2))))
    ∗ bigSep Finset.univ fun j : Fin 7 => cred (tallyAt (cell c (.sr j)) () (amtK (.sr j))))
/-- Its semaphores, all back at zero. -/
def zeros : sProp 𝕄 := bigSep Finset.univ fun k : Key => semVal (cell c k) 0

/-! ## Gathering what the steps need -/

theorem wld0_all : iprop(wt m c ∗ (bigSep Finset.univ fun l : Fin 3 => dutyTok ER (cell c (.wi l)) 0 0) ∗ (bigSep Finset.univ fun l : Fin 3 => dutyTok ER (cell c (.wo l)) 0 0))
    = iprop(wld0 m c 0 ∗ wld0 m c 1 ∗ wld0 m c 2) := by
  have h : iprop(wt m c ∗ (bigSep Finset.univ fun l : Fin 3 => dutyTok ER (cell c (.wi l)) 0 0) ∗ (bigSep Finset.univ fun l : Fin 3 => dutyTok ER (cell c (.wo l)) 0 0))
      = bigSep Finset.univ fun l : Fin 3 => iprop((own' c (wiM l) (WI m l c) ∗ own' c (woM l) (WO m l c)) ∗ dutyTok ER (cell c (.wi l)) 0 0 ∗ dutyTok ER (cell c (.wo l)) 0 0) := by
    unfold wt; simp only [bigSep_sep']
  rw [h, ← bigSep_three (fun l => wld0 m c l)]
  refine bigSep_congr fun l _ => ?_
  unfold wld0
  exact sep_assoc_eq _ _ _

theorem wld2_all : iprop(wld2 m c 0 ∗ wld2 m c 1 ∗ wld2 m c 2)
    = iprop(wt m c ∗ (bigSep Finset.univ fun l : Fin 3 => semVal (cell c (.wi l)) 0) ∗ (bigSep Finset.univ fun l : Fin 3 => semVal (cell c (.wo l)) 0)) := by
  have h : iprop(wt m c ∗ (bigSep Finset.univ fun l : Fin 3 => semVal (cell c (.wi l)) 0) ∗ (bigSep Finset.univ fun l : Fin 3 => semVal (cell c (.wo l)) 0))
      = bigSep Finset.univ fun l : Fin 3 => iprop((own' c (wiM l) (WI m l c) ∗ own' c (woM l) (WO m l c)) ∗ semVal (cell c (.wi l)) 0 ∗ semVal (cell c (.wo l)) 0) := by
    unfold wt; simp only [bigSep_sep']
  rw [h, ← bigSep_three (fun l => wld2 m c l)]
  refine bigSep_congr fun l _ => ?_
  unfold wld2
  exact (sep_assoc_eq _ _ _).symm

omit [FloatOps F] in
theorem wpos_all : iprop((bigSep Finset.univ fun l : Fin 3 => (atPos ER (cell c (.wi l)) 0 ∅ 0 : sProp 𝕄)) ∗ (bigSep Finset.univ fun l : Fin 3 => atPos ER (cell c (.wo l)) 0 ∅ 0))
    = iprop(wpos (F := F) c 0 ∗ wpos (F := F) c 1 ∗ wpos (F := F) c 2) := by
  rw [← bigSep_sep', bigSep_three]; rfl

omit [FloatOps F] in
/-- What the device hands its peers through the barrier: its landing slots. -/
theorem barT_all : iprop((bigSep Finset.univ fun d : Fin 7 => (dutyTok ER (cell (bwd d c) .bar) 0 d : sProp 𝕄)) ∗ (bigSep Finset.univ fun j : Fin 7 => some' (F := F) c (rsB j))
      ∗ (bigSep Finset.univ fun x : Fin 2 × Fin 3 × Fin 2 => some' (F := F) c (bflyB x.1 x.2.1 x.2.2)))
    = bigSep Finset.univ (barT (F := F) c) := by
  unfold barT barPay
  rw [bigSep_sep', bigSep_sep', bigSep_univ_comm (fun (d : Fin 7) (s : Fin 3) => if d = dist s (bwd d c) then slots (F := F) (fwd d (bwd d c)) s else iprop(emp)),
    bigSep_stages (fun l s b => some' (F := F) c (bflyB l s b))]
  congr 2
  · refine bigSep_congr fun d _ => ?_; rw [fwd_bwd]
  · refine bigSep_congr fun s _ => ?_
    rw [show (fun d : Fin 7 => if d = dist s (bwd d c) then slots (F := F) (fwd d (bwd d c)) s else iprop(emp))
      = fun d => if d = dist s (partner s c) then slots (F := F) c s else iprop(emp) from
        funext fun d => by rw [fwd_bwd]; exact if_congr (dist_bwd s d c) rfl rfl]
    rw [bigSep_one (dist s (partner s c)) (fun _ => slots (F := F) c s)]; rfl

omit [FloatOps F] in
/-- What the exchanges need, once the partners' slots have come. -/
theorem kit0_all : iprop((bigSep Finset.univ fun x : Fin 2 × Fin 3 × Fin 2 => (dutyTok ER (cell c (.bs x.1 x.2.1 x.2.2)) 0 0 : sProp 𝕄))
      ∗ (bigSep Finset.univ fun x : Fin 2 × Fin 3 × Fin 2 => dutyTok ER (cell (partner x.2.1 c) (.br x.1 x.2.1 x.2.2)) 0 0)
      ∗ (bigSep Finset.univ fun s : Fin 3 => slots (F := F) (partner s c) s)
      ∗ (bigSep Finset.univ fun x : Fin 2 × Fin 3 × Fin 2 => cred (tallyAt (cell c (.br x.1 x.2.1 x.2.2)) () (amtK (.br x.1 x.2.1 x.2.2))))
      ∗ (bigSep Finset.univ fun x : Fin 2 × Fin 3 × Fin 2 => atPos ER (cell c (.bs x.1 x.2.1 x.2.2)) 0 ∅ 0)
      ∗ (bigSep Finset.univ fun x : Fin 2 × Fin 3 × Fin 2 => atPos ER (cell c (.br x.1 x.2.1 x.2.2)) 0 ∅ 0))
    = iprop((bigSep Finset.univ fun sb : Fin 3 × Fin 2 => kit0 (F := F) c 0 sb.1 sb.2) ∗ (bigSep Finset.univ fun sb : Fin 3 × Fin 2 => kit0 (F := F) c 1 sb.1 sb.2)) := by
  rw [← bigSep_layers (fun l s b => kit0 (F := F) c l s b)]
  unfold kit0 slots
  rw [bigSep_sep', bigSep_sep', bigSep_sep', bigSep_sep', bigSep_sep', ← bigSep_stages (fun l s b => some' (F := F) (partner s c) (bflyB l s b))]

omit [FloatOps F] in
theorem kit2_all : iprop((bigSep Finset.univ fun sb : Fin 3 × Fin 2 => kit2 (F := F) c 0 sb.1 sb.2) ∗ (bigSep Finset.univ fun sb : Fin 3 × Fin 2 => kit2 (F := F) c 1 sb.1 sb.2))
    = iprop((bigSep Finset.univ fun x : Fin 2 × Fin 3 × Fin 2 => semVal (cell c (.bs x.1 x.2.1 x.2.2)) 0)
      ∗ (bigSep Finset.univ fun x : Fin 2 × Fin 3 × Fin 2 => semVal (cell c (.br x.1 x.2.1 x.2.2)) 0)
      ∗ (bigSep Finset.univ fun x : Fin 2 × Fin 3 × Fin 2 => some' (F := F) c (bflyB x.1 x.2.1 x.2.2))) := by
  rw [← bigSep_layers (fun l s b => kit2 (F := F) c l s b)]
  unfold kit2
  rw [bigSep_sep', bigSep_sep']

omit [FloatOps F] in
/-- What sending the pieces needs, by the half they are in. -/
theorem rtok_all : iprop((bigSep Finset.univ fun j : Fin 7 => (dutyTok ER (cell c (.ss j)) 0 0 : sProp 𝕄)) ∗ (bigSep Finset.univ fun j : Fin 7 => dutyTok ER (cell (fwd j c) (.sr j)) 0 0)
      ∗ (bigSep Finset.univ fun j : Fin 7 => some' (F := F) (fwd j c) (rsB j)))
    = iprop((bigSep Finset.univ fun j : Fin 7 => if half (fwd j c) = 0 then rtok (F := F) c j else iprop(emp))
      ∗ (bigSep Finset.univ fun j : Fin 7 => if half (fwd j c) = 1 then rtok (F := F) c j else iprop(emp))) := by
  rw [← bigSep_halves Finset.univ (fun j => half (fwd j c)) (rtok (F := F) c)]
  unfold rtok
  rw [bigSep_sep', bigSep_sep']

omit [FloatOps F] in
theorem rows_all : (bigSep Finset.univ fun p : Dev nD => some' (F := F) c (rowP p)) = iprop(rowsT (F := F) c 0 ∗ rowsT (F := F) c 1) := by
  rw [bigSep_halves Finset.univ half]; unfold rowsT; rw [bigSep_filter, bigSep_filter]; rfl

theorem mine_all : iprop((if half c = 0 then own' c (rowP c) (piece m c c) else iprop(emp)) ∗ (if half c = 1 then own' c (rowP c) (piece m c c) else iprop(emp)))
    ⊢ own' c (rowP c) (piece m c c) := by
  have : half c = 0 ∨ half c = 1 := by generalize half c = x; revert x; decide
  rcases this with e | e
  · rw [e, if_pos rfl, if_neg (by decide)]; iintro ⟨H, -⟩; iexact H
  · rw [e, if_pos rfl, if_neg (by decide)]; iintro ⟨-, H⟩; iexact H

theorem pp0_eq (s : Fin 3) (b : Fin 2) : pp0 c s b = partner s c := by revert c s b; decide +kernel
theorem pp1_eq (s : Fin 3) (b : Fin 2) : pp1 c s b = partner s c := by revert c s b; decide +kernel

omit [FloatOps F] in
theorem own_some {sp : Space} {s : Shape} (M : Memref sig .tc sp s .f32) (X : s.Idx → Elt F .f32) : own' c M X ⊢ some' (F := F) c M := by
  unfold some'; iintro H; iexists X; iexact H

theorem wpc_deviceId (k : Dev nD → Prog (TpuEff nD τ sig (Elt F) Λ₀ .tc) α) : wpc c (.op .deviceId k) Q = wpc c (k c) Q := by
  unfold wpc; rw [wp_deviceId]

/-! ## The run -/

theorem steps_run :
    iprop(recs m K ∗ due c Finset.univ ∗ xown m c ∗ (∃ f, (c : Thread nD τ).loc cc0_stg1_0 ↦{fullShare} f)
        ∗ wt m c ∗ bufs (F := F) c ∗ pos (F := F) c ∗ toks (F := F) c ∗ creds (F := F) c)
      ⊢ iprop((due c ∅ ∗ xown m c ∗ ((c : Thread nD τ).loc cc0_stg1_0 ↦{fullShare} (outV m c : Buf (Elt F) ((c : Thread nD τ).loc cc0_stg1_0)))
            ∗ wt m c ∗ bufs (F := F) c ∗ zeros (F := F) c -∗ wpc c (k ⟨⟩) Q) -∗ wpc c (steps >>= k) Q) := by
  unfold steps
  simp only [bind_assoc]
  simp only [Prog.lift, Prog.bind_op, Prog.bind_ret]
  unfold bufs pos toks creds
  rw [bigSep_keys, bigSep_two, bigSep_two, bigSep_two, rows_all, ← from'_zero]
  iintro ⟨#HR, HO, Hx, ⟨%f, Hout⟩, HW, ⟨⟨Wi0, Wi1⟩, ⟨Wo0, Wo1⟩, ⟨Ac0, Ac1⟩, ⟨Fl0, Fl1⟩, Hb, Hrs⟩, ⟨Pbar, Pwi, Pwo, Pbs, Pbr, Pss, Psr⟩,
    ⟨Tbar, Twi, Two, Tbs, Tbr, Tss, Tsr⟩, ⟨Cbar, Cbr, Csr⟩⟩ Hk
  ihave HL := (Entails.of_eq (wld0_all m c)) $$ [HW Twi Two]
  · isplitl [HW]; · iexact HW
    isplitl [Twi] <;> iassumption
  icases HL with ⟨L0, L1, L2⟩
  ihave HP := (Entails.of_eq (wpos_all (F := F) c)) $$ [Pwi Pwo]
  · isplitl [Pwi] <;> iassumption
  icases HP with ⟨P0, P1, P2⟩
  ihave HT := (Entails.of_eq (barT_all (F := F) c)) $$ [Tbar Hrs Hb]
  · isplitl [Tbar]; · iexact Tbar
    isplitl [Hrs] <;> iassumption
  rw [wpc_deviceId]
  iapply (loadW_run m K c _ Q 0) $$ [L0 Wi0 Wo0]
  · isplitr; · iexact HR
    isplitl [L0]; · iexact L0
    isplitl [Wi0]
    · iexact Wi0
    · iexact Wo0
  iintro L0
  iapply (barrier_run m K c _ Q) $$ [HO HT Cbar Pbar]
  · isplitr; · iexact HR
    isplitl [HO]; · iexact HO
    isplitl [HT]; · iexact HT
    isplitl [Cbar] <;> iassumption
  unfold got
  iintro ⟨HO, Zbar, Gr, Gs⟩
  ihave HK := (Entails.of_eq (kit0_all (F := F) c)) $$ [Tbs Tbr Gs Cbr Pbs Pbr]
  · isplitl [Tbs]; · iexact Tbs
    isplitl [Tbr]; · iexact Tbr
    isplitl [Gs]; · iexact Gs
    isplitl [Cbr]; · iexact Cbr
    isplitl [Pbs] <;> iassumption
  icases HK with ⟨K0, K1⟩
  ihave Hr := (Entails.of_eq (rtok_all (F := F) c)) $$ [Tss Tsr Gr]
  · isplitl [Tss]; · iexact Tss
    isplitl [Tsr] <;> iassumption
  icases Hr with ⟨R0, R1⟩
  iapply (waitW_run m K c _ Q 0 (from' 7) (by decide +kernel)) $$ [HO L0 P0]
  · isplitr; · iexact HR
    isplitl [HO]; · iexact HO
    isplitl [L0] <;> iassumption
  iintro ⟨HO, L0, Wi0, Wo0⟩
  iapply (loadW_run m K c _ Q 1) $$ [L1 Wi1 Wo1]
  · isplitr; · iexact HR
    isplitl [L1]; · iexact L1
    isplitl [Wi1]
    · iexact Wi1
    · iexact Wo1
  iintro L1
  iapply (layer_run m K c _ Q 0 mul0 (pp0 c) (pp0_eq c) iprop(wts m c 0 0 ∗ xown m c) (fun b => some' (F := F) c (accB b))
    (fun b {α} k Q => mul0_run m c k Q b) 7 13 rfl rfl) $$ [HO Wi0 Wo0 Hx Ac0 Ac1 K0]
  · unfold wts
    isplitr; · iexact HR
    isplitl [HO]; · iexact HO
    isplitl [Wi0 Wo0 Hx]
    · isplitr [Hx]
      · isplitl [Wi0]; · iexact Wi0
        iexact Wo0
      iexact Hx
    isplitl [Ac0]; · iexact Ac0
    isplitl [Ac1] <;> iassumption
  unfold wts
  iintro ⟨HO, ⟨⟨Wi0, Wo0⟩, Hx⟩, Ac0, Ac1, K0⟩
  ihave Wi0 := (own_some c _ _) $$ Wi0
  ihave Wo0 := (own_some c _ _) $$ Wo0
  iapply (waitW_run m K c _ Q 1 (from' 13) (by decide +kernel)) $$ [HO L1 P1]
  · isplitr; · iexact HR
    isplitl [HO]; · iexact HO
    isplitl [L1] <;> iassumption
  iintro ⟨HO, L1, Wi1, Wo1⟩
  iapply (loadW_run m K c _ Q 2) $$ [L2 Wi0 Wo0]
  · isplitr; · iexact HR
    isplitl [L2]; · iexact L2
    isplitl [Wi0]
    · iexact Wi0
    · iexact Wo0
  iintro L2
  iapply (layer_run m K c _ Q 1 mul1 (pp1 c) (pp1_eq c) (wts m c 1 1) (fun b => own' c (accB b) (A m 0 3 b c))
    (fun b {α} k Q => mul1_run m c k Q b) 13 19 rfl rfl) $$ [HO Wi1 Wo1 Ac0 Ac1 K1]
  · unfold wts
    isplitr; · iexact HR
    isplitl [HO]; · iexact HO
    isplitl [Wi1 Wo1]
    · isplitl [Wi1]; · iexact Wi1
      iexact Wo1
    isplitl [Ac0]; · iexact Ac0
    isplitl [Ac1] <;> iassumption
  unfold wts
  iintro ⟨HO, ⟨Wi1, Wo1⟩, Ac0, Ac1, K1⟩
  iapply (waitW_run m K c _ Q 2 (from' 19) (by decide +kernel)) $$ [HO L2 P2]
  · isplitr; · iexact HR
    isplitl [HO]; · iexact HO
    isplitl [L2] <;> iassumption
  iintro ⟨HO, L2, Wi0, Wo0⟩
  rw [← fromR_first c]
  iapply (mul2_run m c _ Q 0) $$ [Wi0 Wo0 Ac0 Fl0]
  · unfold wts
    isplitl [Wi0 Wo0]
    · isplitl [Wi0]; · iexact Wi0
      iexact Wo0
    isplitl [Ac0] <;> iassumption
  iintro ⟨Wt0, Ac0, Fl0⟩
  iapply (starts0_run m K c _ Q) $$ [HO R0 Fl0]
  · isplitr; · iexact HR
    isplitl [HO]; · iexact HO
    isplitl [R0] <;> iassumption
  iintro ⟨HO, R0, My0⟩
  iapply (mul2_run m c _ Q 1) $$ [Wt0 Ac1 Fl1]
  · isplitl [Wt0]; · iexact Wt0
    isplitl [Ac1] <;> iassumption
  iintro ⟨Wt0, Ac1, Fl1⟩
  rw [show fromR c 0 7 = fromR c 1 0 from rfl]
  iapply (starts1_run m K c _ Q) $$ [HO R1 Fl1]
  · isplitr; · iexact HR
    isplitl [HO]; · iexact HO
    isplitl [R1] <;> iassumption
  rw [fromR_last c]
  iintro ⟨HO, R1, My1⟩
  ihave My := (mine_all m c) $$ [My0 My1]
  · isplitl [My0] <;> iassumption
  ihave HC := (Entails.of_eq (bigSep_halves Finset.univ (fun j : Fin 7 => half (fwd j c)) (rcred (F := F) c)).symm) $$ [R0 R1]
  · isplitl [R0] <;> iassumption
  iapply (waits_run m K c _ Q) $$ [HO HC Pss Csr Psr]
  · rw [bigSep_sep', bigSep_sep']
    isplitr; · iexact HR
    isplitl [HO]; · iexact HO
    isplitl [HC Pss]
    · isplitl [HC] <;> iassumption
    isplitl [Csr] <;> iassumption
  rw [bigSep_sep', bigSep_sep']
  iintro ⟨HO, ⟨Zss, Hrows⟩, Zsr, Hrs⟩
  iapply (finish_run m c _ Q f) $$ [My Hrs Hout]
  · isplitl [My]; · iexact My
    isplitl [Hrs] <;> iassumption
  iintro ⟨My, Hrs, Hout⟩
  iapply Hk
  isplitl [HO]; · iexact HO
  isplitl [Hx]; · iexact Hx
  isplitl [Hout]; · iexact Hout
  ihave HL := (Entails.of_eq (wld2_all m c)) $$ [L0 L1 L2]
  · isplitl [L0]; · iexact L0
    isplitl [L1] <;> iassumption
  icases HL with ⟨HW, Zwi, Zwo⟩
  ihave HK := (Entails.of_eq (kit2_all (F := F) c)) $$ [K0 K1]
  · isplitl [K0] <;> iassumption
  icases HK with ⟨Zbs, Zbr, Hb⟩
  isplitl [HW]; · iexact HW
  unfold wts
  icases Wt0 with ⟨Wi0, Wo0⟩
  ihave Wi0 := (own_some c _ _) $$ Wi0
  ihave Wo0 := (own_some c _ _) $$ Wo0
  ihave Wi1 := (own_some c _ _) $$ Wi1
  ihave Wo1 := (own_some c _ _) $$ Wo1
  ihave Ac0 := (own_some c _ _) $$ Ac0
  ihave Ac1 := (own_some c _ _) $$ Ac1
  isplitl [Wi0 Wi1 Wo0 Wo1 Ac0 Ac1 My Hrows Hb Hrs]
  · isplitl [Wi0 Wi1]
    · isplitl [Wi0]; · iexact Wi0
      iexact Wi1
    isplitl [Wo0 Wo1]
    · isplitl [Wo0]; · iexact Wo0
      iexact Wo1
    isplitl [Ac0 Ac1]
    · isplitl [Ac0]; · iexact Ac0
      iexact Ac1
    isplitl [My Hrows]
    · rw [← rows_all, bigSep_peers c]
      isplitl [My]
      · iapply (own_some c _ _); iexact My
      iapply (show bigSep Finset.univ (fun j : Fin 7 => own' c (rowP (fwd j c)) (piece m c (fwd j c))) ⊢ bigSep Finset.univ (fun j : Fin 7 => some' (F := F) c (rowP (fwd j c))) from
        bigSep_mono fun j _ => own_some c _ _)
      iexact Hrows
    isplitl [Hb]; · iexact Hb
    iapply (show bigSep Finset.univ (fun j : Fin 7 => own' c (rsB j) (piece m (bwd j c) c)) ⊢ bigSep Finset.univ (fun j : Fin 7 => some' (F := F) c (rsB j)) from
      bigSep_mono fun j _ => own_some c _ _)
    iexact Hrs
  unfold zeros
  rw [bigSep_keys]
  isplitl [Zbar]; · iexact Zbar
  isplitl [Zwi]; · iexact Zwi
  isplitl [Zwo]; · iexact Zwo
  isplitl [Zbs]; · iexact Zbs
  isplitl [Zbr]; · iexact Zbr
  isplitl [Zss] <;> iassumption

end Steps

end Cert.KernelIdeal.Bfly

end
-- ==== Proof.Buffers.lean ====
/- The kernel's buffers, held whole or block by block. -/
module

public import proofs.«01_k».proof.Proof.Whole

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks along the leading axes -/

/-- The blocks of one row each along the first of three axes: apart, and all of it together. -/
theorem lead3 {n a b : ℕ} (h : ∀ (k : Fin n) x, (![k.val, 0, 0] : Fin 3 → ℕ) x + (![1, a, b] : Fin 3 → ℕ) x ≤ (![n, a, b] : Fin 3 → ℕ) x) :
    (∀ k k' : Fin n, k ≠ k' → Disjoint (Rect.unit (s := ⟨3, ![n, a, b]⟩) ![k.val, 0, 0] ![1, a, b] (h k)).set (Rect.unit (s := ⟨3, ![n, a, b]⟩) ![k'.val, 0, 0] ![1, a, b] (h k')).set)
    ∧ (Finset.univ.biUnion fun k : Fin n => (Rect.unit (s := ⟨3, ![n, a, b]⟩) ![k.val, 0, 0] ![1, a, b] (h k)).set) = Finset.univ := by
  constructor
  · intro k k' hk
    rw [Finset.disjoint_left]
    intro i hi hi'
    have hi := (Rect.mem_set_unit.mp hi) 0
    have hi' := (Rect.mem_set_unit.mp hi') 0
    simp only [Matrix.cons_val_zero] at hi hi'
    exact hk (Fin.ext (by omega))
  · ext i
    simp only [Finset.mem_biUnion, Finset.mem_univ, true_and, iff_true]
    refine ⟨⟨(i 0).val, (i 0).isLt⟩, Rect.mem_set_unit.mpr fun x => ?_⟩
    have := (i x).isLt
    revert this
    fin_cases x
    · intro; show (i 0).val ≤ (i 0).val ∧ (i 0).val < (i 0).val + 1; omega
    · intro h1; exact ⟨Nat.zero_le _, by show (i 1).val < 0 + a; rw [Nat.zero_add]; exact h1⟩
    · intro h1; exact ⟨Nat.zero_le _, by show (i 2).val < 0 + b; rw [Nat.zero_add]; exact h1⟩

/-- The landing slots of the exchanges: apart, and all of their buffer together. -/
theorem bfly_sets : (∀ x y : Fin 2 × Fin 3 × Fin 2, x ≠ y → Disjoint (rBfly x.1 x.2.1 x.2.2).set (rBfly y.1 y.2.1 y.2.2).set)
    ∧ (Finset.univ.biUnion fun x : Fin 2 × Fin 3 × Fin 2 => (rBfly x.1 x.2.1 x.2.2).set) = Finset.univ := by
  constructor
  · rintro ⟨l, s, b⟩ ⟨l', s', b'⟩ hk
    rw [Finset.disjoint_left]
    intro i hi hi'
    have h0 : l.val ≤ (i 0).val ∧ (i 0).val < l.val + 1 := (Rect.mem_set_unit.mp hi) 0
    have h1 : s.val ≤ (i 1).val ∧ (i 1).val < s.val + 1 := (Rect.mem_set_unit.mp hi) 1
    have h2 : b.val ≤ (i 2).val ∧ (i 2).val < b.val + 1 := (Rect.mem_set_unit.mp hi) 2
    have h0' : l'.val ≤ (i 0).val ∧ (i 0).val < l'.val + 1 := (Rect.mem_set_unit.mp hi') 0
    have h1' : s'.val ≤ (i 1).val ∧ (i 1).val < s'.val + 1 := (Rect.mem_set_unit.mp hi') 1
    have h2' : b'.val ≤ (i 2).val ∧ (i 2).val < b'.val + 1 := (Rect.mem_set_unit.mp hi') 2
    exact hk (Prod.ext (Fin.ext (by show l.val = l'.val; omega)) (Prod.ext (Fin.ext (by show s.val = s'.val; omega)) (Fin.ext (by show b.val = b'.val; omega))))
  · ext i
    simp only [Finset.mem_biUnion, Finset.mem_univ, true_and, iff_true]
    refine ⟨(⟨(i 0).val, (i 0).isLt⟩, ⟨(i 1).val, (i 1).isLt⟩, ⟨(i 2).val, (i 2).isLt⟩), Rect.mem_set_unit.mpr fun x => ?_⟩
    have := (i x).isLt
    revert this
    fin_cases x
    · intro; show (i 0).val ≤ (i 0).val ∧ (i 0).val < (i 0).val + 1; omega
    · intro; show (i 1).val ≤ (i 1).val ∧ (i 1).val < (i 1).val + 1; omega
    · intro; show (i 2).val ≤ (i 2).val ∧ (i 2).val < (i 2).val + 1; omega
    · intro h1; exact ⟨Nat.zero_le _, by show (i 3).val < 0 + 32; rw [Nat.zero_add]; exact h1⟩
    · intro h1; exact ⟨Nat.zero_le _, by show (i 4).val < 0 + 1024; rw [Nat.zero_add]; exact h1⟩

theorem rows_cover : (Finset.univ.biUnion fun p : Dev nD => (rRow p).set) = Finset.univ := by
  ext i
  simp only [Finset.mem_biUnion, Finset.mem_univ, true_and, iff_true]
  have h0 : (i 0).val < 64 := (i 0).isLt
  refine ⟨⟨(i 0).val / 8, by show _ < 8; omega⟩, Rect.mem_set_unit.mpr fun x => ?_⟩
  have := (i x).isLt
  revert this
  fin_cases x
  · intro; show 8 * ((i 0).val / 8) ≤ (i 0).val ∧ (i 0).val < 8 * ((i 0).val / 8) + 8; omega
  · intro h1; exact ⟨Nat.zero_le _, by show (i 1).val < 0 + 1024; rw [Nat.zero_add]; exact h1⟩

/-! ## Whole and in blocks -/

omit [FloatOps F] in
/-- A block at contents nobody knows is its cells so. -/
theorem some'_eq (c : Dev nD) {sp : Space} {s : Shape} (M : Memref sig .tc sp s .f32) :
    some' (F := F) c M = iprop(∃ f, M.view.loc (c : Thread nD τ) ↦[M.view.set]{fullShare} f) := BI.equiv_iff.mp
  ⟨(show some' (F := F) c M ⊢ iprop(∃ f, M.view.loc (c : Thread nD τ) ↦[M.view.set]{fullShare} f) from by
      unfold some' own' owns
      iintro ⟨%X, %f, -, H⟩; iexists f; iexact H),
    (show iprop(∃ f, M.view.loc (c : Thread nD τ) ↦[M.view.set]{fullShare} f) ⊢ some' (F := F) c M from by
      unfold some' own' owns
      iintro ⟨%f, H⟩
      iexists M.view.read (Elt F) f
      iexists f
      isplitr; · (ipureintro; rfl)
      iexact H)⟩

/-- A buffer at contents nobody knows is its blocks so. -/
theorem split_whole {I : Type} [Fintype I] [DecidableEq I] (c : Dev nD) (b : Ref sig .tc) (r : I → Rect b.ty.shape)
    (h : (∀ x y, x ≠ y → Disjoint (r x).set (r y).set) ∧ (Finset.univ.biUnion fun x => (r x).set) = Finset.univ)
    (f₀ : Buf (Elt F) ((c : Thread nD τ).loc b)) (P : I → sProp 𝕄)
    (hP : ∀ i, P i = iprop(∃ f : Buf (Elt F) ((c : Thread nD τ).loc b), (c : Thread nD τ).loc b ↦[((View.whole b).slice (r i)).set]{fullShare} f)) :
    iprop(∃ f : Buf (Elt F) ((c : Thread nD τ).loc b), (c : Thread nD τ).loc b ↦{fullShare} f) = bigSep Finset.univ P := by
  have sq (x : I) : ((View.whole b).slice (r x)).set = (r x).set := by
    rw [View.set_slice]; exact Finset.map_refl
  let S : I → Finset (Idx ((c : Thread nD τ).loc b)) := fun x => ((View.whole b).slice (r x)).set
  have hd : ∀ x y, x ≠ y → Disjoint (S x) (S y) := fun x y hx => by
    show Disjoint ((View.whole b).slice (r x)).set ((View.whole b).slice (r y)).set
    rw [sq, sq]; exact h.1 x y hx
  have hc : Finset.univ.biUnion S = Finset.univ := (Finset.biUnion_congr rfl fun x _ => sq x).trans h.2
  rw [show P = fun i => iprop(∃ f, (c : Thread nD τ).loc b ↦[S i]{fullShare} f) from funext hP]
  refine BI.equiv_iff.mp ⟨?_, Ring.pointsTo_blocks_join_exists S hd hc f₀⟩
  refine (show iprop(∃ f, (c : Thread nD τ).loc b ↦{fullShare} f) ⊢ bigSep Finset.univ fun i => iprop(∃ f, (c : Thread nD τ).loc b ↦[S i]{fullShare} f) from ?_)
  iintro ⟨%f, H⟩
  ihave H := (Entails.of_eq (Ring.pointsTo_blocks S hd hc f)) $$ H
  iapply (show bigSep Finset.univ (fun i => ((c : Thread nD τ).loc b ↦[S i]{fullShare} f : sProp 𝕄))
      ⊢ bigSep Finset.univ (fun i => iprop(∃ f, (c : Thread nD τ).loc b ↦[S i]{fullShare} f)) from
    bigSep_mono fun i _ => show ((c : Thread nD τ).loc b ↦[S i]{fullShare} f : sProp 𝕄) ⊢ iprop(∃ f, (c : Thread nD τ).loc b ↦[S i]{fullShare} f) from by
      iintro H; iexists f; iexact H)
  iexact H

/-- The kernel's six buffers are their blocks. -/
theorem bufs_eq (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)) = bufs (F := F) c := by
  have z : Elt F .f32 := FloatOps.ofBits .f32 0
  unfold bufs
  rw [split_whole c cc0_scratch0 rWin (lead3 inbWin) (fun _ => z) _ (fun b => (some'_eq c (winB b)).trans (by rw [show (winB b).view.set = _ from View.set_reshape _ _])),
    split_whole c cc0_scratch1 rWout (lead3 inbWout) (fun _ => z) _ (fun b => (some'_eq c (woutB b)).trans (by rw [show (woutB b).view.set = _ from View.set_reshape _ _])),
    split_whole c cc0_scratch2 rAcc (lead3 inbAcc) (fun _ => z) _ (fun b => (some'_eq c (accB b)).trans (by rw [show (accB b).view.set = _ from View.set_reshape _ _])),
    split_whole c cc0_scratch3 rRow ⟨rows_disj, rows_cover⟩ (fun _ => z) _ (fun p => some'_eq c (rowP p)),
    split_whole c cc0_scratch4 (fun x : Fin 2 × Fin 3 × Fin 2 => rBfly x.1 x.2.1 x.2.2) bfly_sets (fun _ => z) _
      (fun x => (some'_eq c (bflyB x.1 x.2.1 x.2.2)).trans (by rw [show (bflyB x.1 x.2.1 x.2.2).view.set = _ from View.set_reshape _ _])),
    split_whole c cc0_scratch5 rRs (lead3 inbRs) (fun _ => z) _ (fun j => (some'_eq c (rsB j)).trans (by rw [show (rsB j).view.set = _ from View.set_reshape _ _]))]

end Cert.KernelIdeal.Bfly

end
-- ==== Proof.Run.lean ====
/- The launch: the pipeline's data, the protocol's ghost state allocated and dealt to the devices, the credits each device
   starts with, and the run of the whole program from any memory. -/
module

public import proofs.«01_k».proof.Proof.Buffers
public import Idealize.ShloMosaic.Lib.Pipeline.CollectiveSegs

@[expose] public section

set_option maxRecDepth 16384

noncomputable section

namespace Cert.KernelIdeal.Bfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: one point, the whole of every window -/

theorem points : cfg0.N = 1 := by decide
def pt : Fin cfg0.N := ⟨0, by rw [points]; decide⟩
theorem eq_pt (t : Fin cfg0.N) : t = pt := by
  obtain ⟨t, ht⟩ := t; have := points; exact Fin.ext (by simp only [pt]; omega)
theorem fetches (t : Fin cfg0.N) : (cfg0.win (0 : Fin 2)).fetch t = true := by rw [eq_pt t]; rfl

/-- The state the program starts in. -/
abbrev st0 : MemSt nD τ sig (Elt F) := ⟨m, fun _ => 0, ρ⟩

/-- The protocol's records, without the order of the waits. -/
def invs (K : Dev nD × Key → ℕ) : sProp 𝕄 :=
  iprop((bigSep Finset.univ fun ck : Dev nD × Key => cellInv ER (sched m) (K ck) (kcell ck))
    ∗ bigSep Finset.univ fun ck : Dev nD × Key => reached ER (kcell ck) 0)
instance invs_persistent (K : Dev nD × Key → ℕ) : BI.Persistent (invs m K) := by unfold invs; infer_instance
theorem recs_of (K : Dev nD × Key → ℕ) : iprop(invs m K ∗ levAts L lv) ⊢ recs m K := by
  unfold invs recs
  iintro ⟨⟨H1, H2⟩, H3⟩
  isplitl [H1]; · iexact H1
  isplitl [H2] <;> iassumption

/-- What the allocation gives a device: the records, its places and the tokens of the counts it adds. -/
def given (c : Dev nD) : sProp 𝕄 := iprop(∃ K, invs m K ∗ pos (F := F) c ∗ toks (F := F) c)
/-- What a device enters the kernel with beside its scratch buffers. -/
def start (c : Dev nD) : sProp 𝕄 := iprop((∃ K, recs m K ∗ pos (F := F) c ∗ toks (F := F) c) ∗ creds (F := F) c ∗ wt m c)
/-- The kernel's state before its one point and after it. -/
def Φ₀ (c : Dev nD) : sProp 𝕄 := iprop(start m c ∗ bufs (F := F) c)
def Φ₁ (c : Dev nD) : sProp 𝕄 := iprop(wt m c ∗ bufs (F := F) c ∗ zeros (F := F) c)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m c
    | ⟨1, _⟩ => outV m c
  Φ t := match t with
    | ⟨0, _⟩ => Φ₀ m c
    | ⟨_ + 1, _⟩ => Φ₁ m c
  q _ := fullShare
  owed t := match t with
    | ⟨0, _⟩ => owed c Finset.univ
    | ⟨_ + 1, _⟩ => 0

theorem owed_none (c : Dev nD) : owed c ∅ = 0 := Finset.sum_empty

/-- A window's staging buffer at its contents. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def ptPre (c : Dev nD) : sProp 𝕄 :=
  iprop(Φ₀ m c ∗ (dats m ρ 0 c).owesAt () pt.castSucc
    ∗ (∃ d, held c cc0_stg0_0 ((dats m ρ 0 c).before (0 : Fin 2) pt d)) ∗ (∃ d, held c cc0_stg1_0 ((dats m ρ 0 c).before (1 : Fin 2) pt d)))
def ptPost (c : Dev nD) : sProp 𝕄 :=
  iprop(Φ₁ m c ∗ (dats m ρ 0 c).owesAt () pt.succ ∗ held c cc0_stg0_0 (xstg m c) ∗ held c cc0_stg1_0 (outV m c))

/-- The body at the kernel's one point. -/
theorem body_pt (c : Dev nD) : ptPre m ρ c ⊢ wpc c body (fun _ => ptPost m ρ c) := by
  rw [body_steps, ← bind_pure (steps (F := F))]
  unfold ptPre Φ₀ start Dat.owesAt Pipeline.owesWithin
  iintro ⟨⟨⟨⟨%K, HR, Hpos, Htok⟩, Hcr, Hwt⟩, Hb⟩, ⟨%W, %hW, HO⟩, ⟨%d0, %g0, %hg0, Hx⟩, ⟨%d1, %g1, %hg1, Hout⟩⟩
  have hx : g0 = xstg m c := by rw [hg0]; unfold Dat.before; rw [if_pos (fetches pt)]; rfl
  subst hx
  iapply (show _ ⊢ _ from steps_run m K c (fun a => pure a) (fun _ => ptPost m ρ c)) $$ [HR Hpos Htok Hcr Hwt Hb HO Hx Hout]
  · isplitl [HR]; · iexact HR
    isplitl [HO]
    · unfold due; iexists W; iexact HO
    isplitl [Hx]; · unfold xown; iexact Hx
    isplitl [Hout]; · iexists g1; iexact Hout
    isplitl [Hwt]; · iexact Hwt
    isplitl [Hb]; · iexact Hb
    isplitl [Hpos]; · iexact Hpos
    isplitl [Htok]; · iexact Htok
    iexact Hcr
  iintro ⟨HO, Hx, Hout, Hwt, Hb, Hz⟩
  rw [show (pure PUnit.unit : Prog (TpuEff nD τ sig (Elt F) Λ₀ .tc) PUnit) = Prog.ret PUnit.unit from rfl]
  unfold wpc
  rw [wp_ret]
  imodintro
  unfold ptPost Φ₁ Dat.owesAt Pipeline.owesWithin due
  rw [show (dats m ρ 0 c).owed pt.succ = 0 from rfl, owed_none]
  icases HO with ⟨%W', HO⟩
  isplitl [Hwt Hb Hz]
  · isplitl [Hwt]; · iexact Hwt
    isplitl [Hb] <;> iassumption
  isplitl [HO]
  · iexists W'
    isplitr; · ipureintro; exact fun _ _ => Or.inl trivial
    iexact HO
  isplitl [Hx]
  · iexists _
    isplitr; · (ipureintro; rfl)
    unfold xown; iexact Hx
  iexists _
  isplitr; · (ipureintro; rfl)
  iexact Hout

theorem body_obligation (c : Dev nD) : BodyObligation (dats (F := F) m ρ 0 c) (defs₀ (F := F)) 𝒱₀ () Set.univ := fun t => by
  rw [eq_pt t]
  rw [bigSep_W0, bigSep_W0]
  simp only [owns_whole_eq]
  exact body_pt m ρ c

/-! ## The semaphores at zero -/

/-- The kernel's own semaphores: all but the barrier's. -/
abbrev OwnKey : Type := Fin 3 ⊕ Fin 3 ⊕ (Fin 2 × Fin 3 × Fin 2) ⊕ (Fin 2 × Fin 3 × Fin 2) ⊕ Fin 7 ⊕ Fin 7
abbrev ownKey (x : OwnKey) : Key := keyE (.inr x)
abbrev ownSem (x : OwnKey) : SemLoc sig := semOf (ownKey x)

/-- The windows' own semaphores have no part in the protocol. -/
theorem stage_no_key : ∀ (w : Fin 2) (s : Fin (cfg0.win w).nbuf) (k : Key), semOf k ≠ .dma ((cfg0.win w).sem s) := by decide +kernel

theorem ownSem_facts : Pipeline.OwnSemFacts cfg0.spec ownSem where
  isScoped x := by
    have h : ∀ k : Key, k ≠ .bar → (semOf k).isScoped .tc = true := by decide +kernel
    exact h _ fun e => by cases keyE.injective (e.trans (show Key.bar = keyE (.inl ()) from rfl))
  inj x y h := Sum.inr.inj (keyE.injective (semOf_injective h))
  disj x w s := stage_no_key w s (ownKey x)

omit [FloatOps F] in
/-- A conjunction over the semaphores: the barrier's and the kernel's own. -/
theorem bigSep_own (Φ : Key → sProp 𝕄) : bigSep Finset.univ Φ = iprop(Φ .bar ∗ bigSep Finset.univ fun x => Φ (ownKey x)) := by
  rw [bigSep_univ_equiv keyE Φ, bigSep_univ_sum, show (Finset.univ : Finset Unit) = {()} from rfl, bigSep_singleton]
  rfl

omit [FloatOps F] in
theorem unscoped_zero (c : Dev nD) : (unscopedSems0 c : sProp 𝕄) = semVal (cell c .bar) 0 := by
  unfold unscopedSems0; rw [bigSep_eq_bigSepL_of_eq [SemLoc.reg barSem] (by decide +kernel) (by decide)]; rfl

/-- The kernel's own semaphores at zero. -/
abbrev ownZero (c : Dev nD) : sProp 𝕄 := Pipeline.ownSems0 (Ix := Unit) (Name := ℕ) (U := UU) (Lvl := ℕ) (Val := Elt F) (τ := τ) ownSem c

omit [FloatOps F] in
theorem zeros_eq (c : Dev nD) : (zeros (F := F) c : sProp 𝕄) = iprop(unscopedSems0 c ∗ ownZero (F := F) c) := by
  unfold zeros; rw [bigSep_own, unscoped_zero]; rfl

/-! ## Allocating the protocol -/

theorem kcell_injective : Function.Injective (kcell : Dev nD × Key → GSem nD τ sig) := by
  rintro ⟨c, k⟩ ⟨c', k'⟩ h
  have h1 : c = c' := congrArg (fun g : GSem nD τ sig => g.1.1) h
  have h2 : k = k' := semOf_injective (congrArg Prod.snd h)
  rw [h1, h2]
def allCells : Finset (GSem nD τ sig) := Finset.univ.map ⟨kcell, kcell_injective⟩

/-- A device's tokens as made: seven of its barrier, one of each of its other semaphores. -/
abbrev tokOf (x : Dev nD × (Fin 7 ⊕ OwnKey)) : GSem nD τ sig × ℕ × Fin 7 := match x.2 with
  | .inl d => (cell x.1 .bar, 0, d)
  | .inr k => (cell x.1 (ownKey k), 0, 0)
theorem tokOf_injective : Function.Injective tokOf := by
  have hk (x : OwnKey) : ownKey x ≠ .bar := fun h => by cases keyE.injective (h.trans (show Key.bar = keyE (.inl ()) from rfl))
  rintro ⟨c, a⟩ ⟨c', a'⟩ h
  have h1 : c = c' := by
    have := congrArg (fun x : GSem nD τ sig × ℕ × Fin 7 => x.1.1.1) h
    cases a <;> cases a' <;> exact this
  subst h1
  cases a with
  | inl d => cases a' with
    | inl d' => exact congrArg (fun d => (c, Sum.inl d)) (congrArg (fun x : GSem nD τ sig × ℕ × Fin 7 => x.2.2) h)
    | inr k' => exact absurd (semOf_injective (congrArg (fun x : GSem nD τ sig × ℕ × Fin 7 => x.1.2) h)).symm (hk k')
  | inr k => cases a' with
    | inl d' => exact absurd (semOf_injective (congrArg (fun x : GSem nD τ sig × ℕ × Fin 7 => x.1.2) h)) (hk k)
    | inr k' =>
      have := keyE.injective (semOf_injective (congrArg (fun x : GSem nD τ sig × ℕ × Fin 7 => x.1.2) h))
      rw [Sum.inr.inj this]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of a device's own semaphores. -/
def made (c : Dev nD) : sProp 𝕄 :=
  iprop((bigSep Finset.univ fun d : Fin 7 => dutyTok ER (cell c .bar) 0 d)
    ∗ (bigSep Finset.univ fun l : Fin 3 => dutyTok ER (cell c (.wi l)) 0 0) ∗ (bigSep Finset.univ fun l : Fin 3 => dutyTok ER (cell c (.wo l)) 0 0)
    ∗ (bigSep Finset.univ fun x : Fin 2 × Fin 3 × Fin 2 => dutyTok ER (cell c (.bs x.1 x.2.1 x.2.2)) 0 0)
    ∗ (bigSep Finset.univ fun x : Fin 2 × Fin 3 × Fin 2 => dutyTok ER (cell c (.br x.1 x.2.1 x.2.2)) 0 0)
    ∗ (bigSep Finset.univ fun j : Fin 7 => dutyTok ER (cell c (.ss j)) 0 0) ∗ bigSep Finset.univ fun j : Fin 7 => dutyTok ER (cell c (.sr j)) 0 0)

/-- What the launch deals a device: its semaphores' round states, its places, the marks that they have begun, the tokens. -/
def dealt (c : Dev nD) : sProp 𝕄 :=
  iprop((bigSep Finset.univ fun k : Key => roundState ER (sched m) (kcell (c, k)) 0) ∗ pos (F := F) c
    ∗ (bigSep Finset.univ fun k : Key => reached ER (kcell (c, k)) 0) ∗ made (F := F) c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Key => Φ (kcell (c, k)) := by
    unfold allCells; rw [bigSep_map, bigSep_univ_prod]; rfl
  have hT : bigSep allToks (fun x => (dutyTok ER x.1 x.2.1 x.2.2 : sProp 𝕄)) = bigSep Finset.univ fun c : Dev nD => made (F := F) c := by
    unfold allToks; rw [bigSep_map, bigSep_univ_prod]
    refine bigSep_congr fun c _ => ?_
    unfold made
    rw [bigSep_univ_sum, bigSep_univ_sum, bigSep_univ_sum, bigSep_univ_sum, bigSep_univ_sum, bigSep_univ_sum]
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt pos; simp only [bigSep_sep']
  isplitl [Hst']; · iexact Hst'
  isplitl [Hat']; · iexact Hat'
  isplitl [Hr'] <;> iassumption

/-- A device's semaphores at zero and their round states become its invariants. -/
theorem core_alloc (c : Dev nD) :
    iprop(ownZero (F := F) c ∗ unscopedSems0 c ∗ dealt m c)
      ⊢ |={Set.univ}=> iprop((bigSep Finset.univ fun k => iprop(∃ κ : ℕ, cellInv ER (sched m) κ (kcell (c, k))))
          ∗ pos (F := F) c ∗ (bigSep Finset.univ fun k : Key => reached ER (kcell (c, k)) 0) ∗ made (F := F) c) := by
  unfold dealt
  iintro ⟨Hos, Hus, Hst, Hrest⟩
  ihave Hv := (Entails.of_eq (zeros_eq (F := F) c).symm) $$ [Hos Hus]
  · isplitl [Hus] <;> iassumption
  imod (show iprop(zeros (F := F) c ∗ bigSep Finset.univ fun k : Key => roundState ER (sched m) (kcell (c, k)) 0)
      ⊢ (|={Set.univ}=> bigSep Finset.univ fun k => iprop(∃ κ : ℕ, cellInv ER (sched m) κ (kcell (c, k))) : sProp 𝕄) from by
        unfold zeros
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  iexact Hrest

omit [FloatOps F] in
/-- A family of conjunctions over the devices, each dealt around by its own renaming of the devices. -/
theorem deal {I : Type} [Fintype I] [DecidableEq I] (e : I → Dev nD ≃ Dev nD) (Φ : Dev nD → I → sProp 𝕄) :
    (bigSep Finset.univ fun c : Dev nD => bigSep Finset.univ fun i : I => Φ c i)
      = bigSep Finset.univ fun c : Dev nD => bigSep Finset.univ fun i : I => Φ (e i c) i := by
  rw [bigSep_univ_comm, bigSep_congr fun i _ => bigSep_univ_equiv (e i) (fun c => Φ c i), bigSep_univ_comm]

/-- Going `j + 1` places on or back, or to the partner of a stage, as renamings of the devices. -/
def fwdE (j : Fin 7) : Dev nD ≃ Dev nD := ⟨fwd j, bwd j, bwd_fwd j, fwd_bwd j⟩
def bwdE (j : Fin 7) : Dev nD ≃ Dev nD := (fwdE j).symm
def partnerE (s : Fin 3) : Dev nD ≃ Dev nD := ⟨partner s, partner s, partner_partner s, partner_partner s⟩

omit [FloatOps F] in
/-- The tokens go to the devices that add the counts. -/
theorem toks_dealt : (bigSep Finset.univ fun c : Dev nD => (made (F := F) c : sProp 𝕄)) = bigSep Finset.univ fun c : Dev nD => toks (F := F) c := by
  unfold made toks
  simp only [bigSep_sep']
  rw [deal bwdE (fun c d => (dutyTok ER (cell c .bar) 0 d : sProp 𝕄)),
    deal (fun x : Fin 2 × Fin 3 × Fin 2 => partnerE x.2.1) (fun c x => (dutyTok ER (cell c (.br x.1 x.2.1 x.2.2)) 0 0 : sProp 𝕄)),
    deal fwdE (fun c j => (dutyTok ER (cell c (.sr j)) 0 0 : sProp 𝕄))]
  rfl

omit [FloatOps F] in
/-- What may be used again and again goes to every part of a conjunction. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ pos (F := F) c ∗ (bigSep Finset.univ fun k : Key => reached ER (kcell (c, k)) 0) ∗ made (F := F) c) : sProp 𝕄)
      ⊢ bigSep Finset.univ (given m) := by
  rw [bigSep_sep', bigSep_sep', bigSep_sep', ← bigSep_univ_prod (fun ck : Dev nD × Key => iprop(∃ κ : ℕ, cellInv ER (sched m) κ (kcell ck))),
    ← bigSep_univ_prod (fun ck : Dev nD × Key => (reached ER (kcell ck) 0 : sProp 𝕄)), toks_dealt]
  iintro ⟨HI, Hat, #HR, Htok⟩
  ihave HK := (BI.bigSep_exists_pi Finset.univ (fun (ck : Dev nD × Key) (κ : ℕ) => (cellInv ER (sched m) κ (kcell ck) : sProp 𝕄))) $$ HI
  icases HK with ⟨%K, #HI⟩
  iapply (show iprop(invs m K ∗ bigSep Finset.univ fun c : Dev nD => iprop(pos (F := F) c ∗ toks (F := F) c)) ⊢ bigSep Finset.univ (given m) from
    bigSep_share fun c _ => show iprop(invs m K ∗ pos (F := F) c ∗ toks (F := F) c) ⊢ given m c from by
      unfold given
      iintro H
      iexists K; iexact H)
  isplitr
  · unfold invs; isplitl; · iexact HI
    iexact HR
  rw [bigSep_sep']
  isplitl [Hat] <;> iassumption

/-- Every device's semaphores at once. -/
theorem glob : (bigSep Finset.univ fun c => iprop(ownZero (F := F) c ∗ unscopedSems0 c ∗ dealt m c) : sProp 𝕄)
    ⊢ |={Set.univ}=> bigSep Finset.univ (given m) :=
  ((bigSep_mono fun c _ => core_alloc m c).trans (bigSep_fupd _ _)).trans (BI.fupd_mono (regroup m))

/-! ## The credits -/

/-- How many counts come to a semaphore. -/
def coming : Key → ℕ | .bar => 7 | .br _ _ _ => 1 | .sr _ => 1 | _ => 0
theorem coming_eq : ∀ (c : Dev nD) (k : Key), (Finset.univ.filter fun x : Dev nD × Ev => x.2.dev x.1 = c ∧ x.2.key = k).card = coming k := by
  decide +kernel

theorem tal_apply (d : Dev nD) (e : Ev) (c : Dev nD) (k : Key) : tal d e (cell c k) () = if e.dev d = c ∧ e.key = k then amtK k else 0 := by
  unfold tal
  rw [tallyAt_apply]
  by_cases h : e.dev d = c ∧ e.key = k
  · rw [if_pos ⟨by rw [h.1, h.2], rfl⟩, if_pos h, h.2]
  · rw [if_neg h, if_neg]
    rintro ⟨h', -⟩
    have := kcell_injective (a₁ := (c, k)) (a₂ := (e.dev d, e.key)) h'
    exact h ⟨(congrArg Prod.fst this).symm, (congrArg Prod.snd this).symm⟩

/-- What all devices owe a semaphore. -/
theorem owed_sum (c : Dev nD) (k : Key) : ∑ d : Dev nD, owed d Finset.univ (cell c k) () = coming k * amtK k := by
  unfold owed
  simp only [Finset.sum_apply, Finsupp.finset_sum_apply, tal_apply]
  rw [← coming_eq c k, ← Fintype.sum_prod_type' (f := fun (d : Dev nD) (e : Ev) => if e.dev d = c ∧ e.key = k then amtK k else 0), ← Finset.sum_filter,
    Finset.sum_const, smul_eq_mul]

omit [FloatOps F] in
theorem creds_of (c : Dev nD) : (Pipeline.launchCred (fun d => owed d Finset.univ) c : sProp 𝕄) ⊢ creds (F := F) c := by
  have h (k : Key) : tallyOn (cell c k) (launchCredit (Pipeline.owing fun d => owed d Finset.univ) 0 (cell c k))
      = (tallyAt (cell c k) () (coming k * amtK k) : CellTallies nD τ sig Unit) := by
    unfold tallyAt; refine congrArg _ (Finsupp.ext fun u => ?_); cases u
    rw [Pipeline.launchCredit_owing, Finsupp.single_eq_same, owed_sum]
  have h1 : (Pipeline.launchCred (fun d => owed d Finset.univ) c : sProp 𝕄)
      ⊢ bigSep Finset.univ fun k : Key => cred (tallyAt (cell c k) () (coming k * amtK k)) := by
    unfold Pipeline.launchCred
    refine (bigSep_subset (Finset.subset_univ (Finset.univ.map ⟨semOf, semOf_injective⟩))).trans ?_
    rw [bigSep_map]
    exact Entails.of_eq (bigSep_congr fun k _ => congrArg cred (h k))
  refine h1.trans ?_
  rw [bigSep_keys]
  unfold creds coming
  simp only [Nat.one_mul]
  iintro ⟨H1, -, -, -, H2, -, H3⟩
  isplitl [H1]; · iexact H1
  isplitl [H2] <;> iassumption

/-! ## Entering and leaving the kernel -/

/-- The weights' arrays as launched. -/
theorem wt_eq (c : Dev nD) :
    (Pipeline.unscopedRest (Ix := Unit) (Name := ℕ) (U := UU) (Lvl := ℕ) cfg0.spec c (fun b => m ((c : Thread nD τ).loc b)) : sProp 𝕄) = wt m c := by
  refine (unscopedRest0_eq c _).trans ?_
  unfold wt own'
  rw [bigSep_three, sep_assoc_eq, sep_assoc_eq]
  unfold wiM woM
  rw [owns_whole, owns_whole, owns_whole, owns_whole, owns_whole, owns_whole]
  rfl

theorem start_intro (c : Dev nD) :
    iprop(Pipeline.unscopedRestP Pipeline.Prefetch.none cfg0.spec c (fun b => m ((c : Thread nD τ).loc b)) ∗ levAts L lv
        ∗ Pipeline.launchCred (fun d => owed d Finset.univ) c ∗ prngReg c (ρ c) ∗ given m c)
      ⊢ |={Set.univ}=> iprop(start m c ∗ emp) := by
  rw [Pipeline.unscopedRestP_none, wt_eq]
  unfold given start
  iintro ⟨Hwt, Hlev, Hcr, -, ⟨%K, HI, HG⟩⟩
  ihave Hc := (creds_of (F := F) c) $$ Hcr
  ihave HR := (recs_of m K) $$ [HI Hlev]
  · isplitl [HI] <;> iassumption
  imodintro
  isplitl
  · isplitl [HR HG]
    · iexists K
      isplitl [HR] <;> iassumption
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq, bufs_eq]
  unfold Φ₀
  iintro ⟨Hs, -, Hb⟩
  isplitl [Hs] <;> iassumption

theorem leave (c : Dev nD) :
    (dats m ρ 0 c).Φ (Fin.last cfg0.N) ⊢ iprop((unscopedSems0 c ∗ wt m c) ∗ ownZero (F := F) c ∗ Pipeline.scopedRest cfg0.spec c) := by
  rw [show (dats m ρ 0 c).Φ (Fin.last cfg0.N) = Φ₁ m c from rfl, scopedRest0_eq, bufs_eq]
  unfold Φ₁
  rw [zeros_eq]
  iintro ⟨Hw, Hb, Hu, Ho⟩
  isplitl [Hw Hu]
  · isplitl [Hu] <;> iassumption
  isplitl [Ho] <;> iassumption

theorem stage_level (c : Dev nD) : ∀ (w : Fin 2) (s : Fin (cfg0.win w).nbuf), lv ((c : Thread nD τ), .dma ((cfg0.win w).sem s)) () ≤ 0 := by
  intro w s
  unfold lv
  rw [keyOf_none (stage_no_key w s)]

theorem stage_waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ Finset.univ 0 (stage_level c w s) (by decide +kernel)
    · have h := mayWait_of (F := F) c (.dma ((cfg0.win w).sem s)) ∅ 0 (stage_level c w s) (fun e he => absurd he (Finset.notMem_empty e))
      rw [owed_none] at h
      exact h

theorem share_full (c : Dev nD) (w : Fin cfg0.W) : (dats m ρ 0 c).share w = fullShare := by unfold Dat.share; split <;> rfl

/-! ## The run -/

/-- What each device's memory holds at the end: the arguments as they were, the result. -/
def Ends (s : MemSt nD τ sig (Elt F)) (c : Dev nD) : Prop :=
  s.mem ((c : Thread nD τ).loc main_arg0) = m ((c : Thread nD τ).loc main_arg0)
    ∧ (∀ b ∈ [main_arg1, main_arg2, main_arg3, main_arg4, main_arg5, main_arg6], s.mem ((c : Thread nD τ).loc b) = m ((c : Thread nD τ).loc b))
    ∧ s.mem ((c : Thread nD τ).loc main_v1) = (outV m c : Buf (Elt F) ((c : Thread nD τ).loc main_v1))

theorem arr_out (c : Dev nD) : (dats m ρ 0 c).arrAt (1 : Fin 2) cfg0.N = (outV m c : Buf (Elt F) ((c : Thread nD τ).loc main_v1)) := by
  refine (dats m ρ 0 c).arrAt_eq_of_cover (1 : Fin 2) _ (fun t _ => ?_) (fun i => ?_)
  · rw [eq_pt t]
    funext i
    refine congrArg (outV m c) (funext fun a => Fin.ext ?_)
    fin_cases a
    · show (i 0 : ℕ) = 0 + 1 * (i 0 : ℕ)
      omega
    · show (i 1 : ℕ) = 0 + 1 * (i 1 : ℕ)
      omega
  · refine ⟨pt, rfl, ?_⟩
    show i ∈ ((View.whole main_v1).slice (win0_1.rect pt)).set
    rw [View.set_slice_whole, Rect.mem_set_unit]
    intro a
    have h0 : (i 0 : Nat) < 8 := (i 0).isLt
    have h1 : (i 1 : Nat) < 1024 := (i 1).isLt
    fin_cases a
    · exact ⟨(show (0 : ℕ) ≤ _ from Nat.zero_le _), (show (i 0 : ℕ) < 0 + 8 by omega)⟩
    · exact ⟨(show (0 : ℕ) ≤ _ from Nat.zero_le _), (show (i 1 : ℕ) < 0 + 1024 by omega)⟩

/-- From any memory with the semaphores at zero, every execution of the program ends, and ends so. -/
theorem run_main : θ_run defs (onTc (τ := τ) (main (F := F))) (st0 m ρ) (fun r => (∀ c : Dev nD, Ends m r.2 c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => owed d Finset.univ) (howed₀ := fun _ => rfl) (howedN := fun _ => rfl)
    (L := L) (lv := lv) (hL := L_of_ne) (hwaits := stage_waits m ρ)
    (G := dealt m) (G' := given m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ wt m c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ ∀ b ∈ [main_arg1, main_arg2, main_arg3, main_arg4, main_arg5, main_arg6], s.mem ((c : Thread nD τ).loc b) = m ((c : Thread nD τ).loc b))
    (hY := fun c s' => by
      rw [← wt_eq]
      unfold Pipeline.unscopedRest
      iintro ⟨⟨Hu, Hw⟩, -, HSI⟩
      ihave H := (pointsTo_read_all _ (fun b : Ref sig .tc => (c : Thread nD τ).loc b) (fun b => m ((c : Thread nD τ).loc b)) s') $$ [Hw HSI]
      · isplitl [Hw] <;> iassumption
      icases H with ⟨%hw, HSI⟩
      imod (Pipeline.unscopedSems0_read (X := unscopedSems0 c) (c := c) fupd_intro s') $$ [Hu HSI] with ⟨%hu, HSI⟩
      · isplitl [Hu] <;> iassumption
      imodintro
      isplitr
      · ipureintro
        exact ⟨hu, fun b hb => hw b (by revert b; decide)⟩
      iexact HSI)
    (hQ := fun s h hs => ⟨fun c => ⟨((h c).1 0).trans ((dats m ρ 0 c).arrAt_in (0 : Fin 2) rfl _), (h c).2.2.2, ((h c).1 1).trans (arr_out m ρ c)⟩,
      sem_eq_zero hs fun c => (h c).2.2.1⟩)

end Cert.KernelIdeal.Bfly

end
-- ==== Proof.Values.lean ====
/- The values over the extended reals: the butterfly adds up all devices' products, so after each layer every device has
   the whole layer's result, and the reduce-scatter leaves device `c` its eight rows of the last layer's. -/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout

@[expose] public section

set_option maxRecDepth 16384

noncomputable section

namespace Cert.KernelIdeal.Bfly

open Cert.KernelIdeal Cert.KernelIdeal.Gen
open Idealize.ShloMosaic Idealize.ShloMosaic.TcCoe
open Idealize.ShloMosaic.ValueIdx Idealize.ShloMosaic.StackMember

/-! ## One layer at an index -/

/-- One layer over weights `H` wide, at row `r` and column `q`. -/
def net {M H : ℕ} (x : FVec Ideal ⟨2, ![M, 1024]⟩ .f32) (wi : FVec Ideal ⟨2, ![1024, H]⟩ .f32) (wo : FVec Ideal ⟨2, ![H, 1024]⟩ .f32)
    (r : Fin M) (q : Fin 1024) : EReal :=
  ∑ k : Fin H, max (∑ d : Fin 1024, x (ix2 r d) * wi (ix2 d k)) 0 * wo (ix2 k q)

theorem zero_word : Scalar.ofBits (F := Ideal) .f32 0x00000000#32 = (0 : EReal) := Ideal.ofBits_zero_f32

/-- The kernel's product pair is a layer over the device's part of the weights; -/
theorem mlp_apply (x : FVec Ideal S32x1024 .f32) (wi : FVec Ideal S1024x2048 .f32) (wo : FVec Ideal S2048x1024 .f32) (r : Fin 32) (q : Fin 1024) :
    mlp x wi wo (ix2 r q) = net x wi wo r q := by
  refine (Ideal.matmul_plain_apply (M := 32) (K := 2048) (N := 1024) none _ wo _ r q).trans ?_
  rw [show constant (F := Ideal) S32x1024 .f32 0x00000000#32 (ix2 r q) = (0 : EReal) from zero_word, zero_add]
  refine Finset.sum_congr rfl fun k _ => ?_
  rw [maximumf_apply]
  refine congrArg (· * wo (ix2 k q)) (congrArg₂ max ?_ zero_word)
  refine (Ideal.matmul_plain_apply (M := 32) (K := 1024) (N := 2048) none x wi _ r k).trans ?_
  rw [show constant (F := Ideal) S32x2048 .f32 0x00000000#32 (ix2 r k) = (0 : EReal) from zero_word, zero_add]

/-- The reference's layer. -/
abbrev layerR (x : FVec Ideal Cert.ReferenceIdeal.S64x1024 .f32) (wi : FVec Ideal Cert.ReferenceIdeal.S1024x16384 .f32)
    (wo : FVec Ideal Cert.ReferenceIdeal.S16384x1024 .f32) : FVec Ideal Cert.ReferenceIdeal.S64x1024 .f32 :=
  Host.dotGeneral Cert.ReferenceIdeal.dot_S64x16384_S16384x1024_S64x1024_1_0_0_1_n_n none
    (maximumf (Host.dotGeneral Cert.ReferenceIdeal.dot_S64x1024_S1024x16384_S64x16384_1_0_0_1_n_n none x wi)
      (broadcastInDim Cert.ReferenceIdeal.S64x16384 ![] Cert.ReferenceIdeal.Facts₀.bcast_S_S64x16384
        (constant Cert.ReferenceIdeal.S_ .f32 0x00000000#32))) wo

theorem layerR_apply (x : FVec Ideal Cert.ReferenceIdeal.S64x1024 .f32) (wi : FVec Ideal Cert.ReferenceIdeal.S1024x16384 .f32)
    (wo : FVec Ideal Cert.ReferenceIdeal.S16384x1024 .f32) (r : Fin 64) (q : Fin 1024) :
    layerR x wi wo (ix2 r q) = net x wi wo r q := by
  refine (dotGeneral_plain_apply (m := 64) (k := 16384) (n := 1024) none _ wo r q).trans ?_
  refine Finset.sum_congr rfl fun k _ => ?_
  rw [maximumf_apply]
  refine congrArg (· * wo (ix2 k q)) (congrArg₂ max ?_ zero_word)
  exact dotGeneral_plain_apply (m := 64) (k := 1024) (n := 16384) none x wi r k

/-- A layer's row depends on that row of its operand alone, -/
theorem net_row {M M' H : ℕ} {x : FVec Ideal ⟨2, ![M, 1024]⟩ .f32} {y : FVec Ideal ⟨2, ![M', 1024]⟩ .f32} (wi : FVec Ideal ⟨2, ![1024, H]⟩ .f32)
    (wo : FVec Ideal ⟨2, ![H, 1024]⟩ .f32) {r : Fin M} {r' : Fin M'} (h : ∀ d, x (ix2 r d) = y (ix2 r' d)) (q : Fin 1024) :
    net x wi wo r q = net y wi wo r' q := by
  unfold net; simp only [h]

/-- A device's columns of the input weights and rows of the output weights. -/
abbrev colsOf (c : Dev nD) (w : FVec Ideal ⟨2, ![1024, 16384]⟩ .f32) : FVec Ideal ⟨2, ![1024, 2048]⟩ .f32 := Layout.block ⟨2, ![1024, 2048]⟩ ⟨2, ![1024, 16384]⟩ 1 8 c w
abbrev rowsOf (c : Dev nD) (w : FVec Ideal ⟨2, ![16384, 1024]⟩ .f32) : FVec Ideal ⟨2, ![2048, 1024]⟩ .f32 := Layout.block ⟨2, ![2048, 1024]⟩ ⟨2, ![16384, 1024]⟩ 0 8 c w

/-- and the layer is the sum of the layers over the devices' parts of the weights. -/
theorem net_split {M : ℕ} (x : FVec Ideal ⟨2, ![M, 1024]⟩ .f32) (wi : FVec Ideal ⟨2, ![1024, 16384]⟩ .f32) (wo : FVec Ideal ⟨2, ![16384, 1024]⟩ .f32)
    (r : Fin M) (q : Fin 1024) : ∑ c : Dev nD, net x (colsOf c wi) (rowsOf c wo) r q = net x wi wo r q := by
  unfold net
  rw [← Fintype.sum_prod_type' (f := fun (c : Dev nD) (k : Fin 2048) => max (∑ d : Fin 1024, x (ix2 r d) * colsOf c wi (ix2 d k)) 0 * rowsOf c wo (ix2 k q))]
  refine Fintype.sum_equiv (finProdFinEquiv (m := 8) (n := 2048)) _ (fun k : Fin 16384 => max (∑ d : Fin 1024, x (ix2 r d) * wi (ix2 d k)) 0 * wo (ix2 k q)) ?_
  rintro ⟨c, k⟩
  have hi (d : Fin 1024) : colsOf c wi (ix2 d k) = wi (ix2 d (finProdFinEquiv (m := 8) (n := 2048) (c, k))) := by
    rw [colsOf, Layout.block_apply]
    refine congrArg wi (funext fun a => Fin.ext ?_)
    match a with
    | ⟨0, _⟩ => rfl
    | ⟨1, _⟩ => show c.val * 2048 + k.val = k.val + 2048 * c.val; omega
  have ho : rowsOf c wo (ix2 k q) = wo (ix2 (finProdFinEquiv (m := 8) (n := 2048) (c, k)) q) := by
    rw [rowsOf, Layout.block_apply]
    refine congrArg wo (funext fun a => Fin.ext ?_)
    match a with
    | ⟨0, _⟩ => show c.val * 2048 + k.val = k.val + 2048 * c.val; omega
    | ⟨1, _⟩ => rfl
  simp only [hi, ho]

/-! ## Sums over the devices -/

/-- The order in which the butterfly adds up the devices' values, -/
def order (c : Dev nD) : Fin 8 → Dev nD :=
  ![c, partner 0 c, partner 1 c, partner 0 (partner 1 c), partner 2 c, partner 0 (partner 2 c), partner 1 (partner 2 c), partner 0 (partner 1 (partner 2 c))]
theorem order_all : ∀ c, Function.Bijective (order c) := by decide +kernel
/-- and the reduce-scatter. -/
def orderR (c : Dev nD) : Fin 8 → Dev nD := ![c, bwd 0 c, bwd 1 c, bwd 2 c, bwd 3 c, bwd 4 c, bwd 5 c, bwd 6 c]
theorem orderR_all : ∀ c, Function.Bijective (orderR c) := by decide +kernel

theorem bfly_sum (f : Dev nD → FVec Ideal S32x1024 .f32) (c : Dev nD) (i : S32x1024.Idx) : bfly f 3 c i = ∑ d : Dev nD, (f d i : EReal) := by
  rw [← (order_all c).sum_comp (fun d => (f d i : EReal)), Fin.sum_univ_eight]
  show ((f c i + f (partner 0 c) i) + (f (partner 1 c) i + f (partner 0 (partner 1 c)) i))
      + ((f (partner 2 c) i + f (partner 0 (partner 2 c)) i) + (f (partner 1 (partner 2 c)) i + f (partner 0 (partner 1 (partner 2 c))) i))
    = (f c i + f (partner 0 c) i + f (partner 1 c) i + f (partner 0 (partner 1 c)) i
      + f (partner 2 c) i + f (partner 0 (partner 2 c)) i + f (partner 1 (partner 2 c)) i + f (partner 0 (partner 1 (partner 2 c))) i : EReal)
  simp only [add_assoc]

/-! ## The whole network -/

section Net
variable (m : (ℓ : Loc nD τ sig) → Buf (Elt Ideal) ℓ)
variable (X : FVec Ideal ⟨2, ![64, 1024]⟩ .f32) (GI : Fin 3 → FVec Ideal ⟨2, ![1024, 16384]⟩ .f32) (GO : Fin 3 → FVec Ideal ⟨2, ![16384, 1024]⟩ .f32)
variable (hx : ∀ c : Dev nD, m ((c : Thread nD τ).loc main_arg0) = X)
variable (hi : ∀ (l : Fin 3) (c : Dev nD), WI m l c = colsOf c (GI l)) (ho : ∀ (l : Fin 3) (c : Dev nD), WO m l c = rowsOf c (GO l))

/-- The reference's result of each layer. -/
abbrev R1 : FVec Ideal ⟨2, ![64, 1024]⟩ .f32 := layerR X (GI 0) (GO 0)
abbrev R2 : FVec Ideal ⟨2, ![64, 1024]⟩ .f32 := layerR (R1 X GI GO) (GI 1) (GO 1)
abbrev R3 : FVec Ideal ⟨2, ![64, 1024]⟩ .f32 := layerR (R2 X GI GO) (GI 2) (GO 2)

/-- Row `r` of half `b`. -/
def rowOf (b : Fin 2) (r : Fin 32) : Fin 64 := ⟨32 * b.val + r.val, by have := b.isLt; have := r.isLt; omega⟩

include hx in
theorem xHalf_apply (b : Fin 2) (c : Dev nD) (r : Fin 32) (d : Fin 1024) : xHalf m b c (ix2 r d) = X (ix2 (rowOf b r) d) := by
  rw [← hx c]
  show m ((c : Thread nD τ).loc main_arg0) _ = m ((c : Thread nD τ).loc main_arg0) _
  refine congrArg (m ((c : Thread nD τ).loc main_arg0)) (funext fun a => Fin.ext ?_)
  match a with
  | ⟨0, _⟩ => show 0 + 1 * (32 * b.val + 1 * r.val) = 32 * b.val + r.val; omega
  | ⟨1, _⟩ => show 0 + 1 * (0 + 1 * d.val) = d.val; omega

include hi ho in
/-- A layer's products over the devices, from operands whose rows are the reference's, add up to the reference's layer. -/
theorem layer_sum (l : Fin 3) (b : Fin 2) (Y : FVec Ideal ⟨2, ![64, 1024]⟩ .f32) (y : Dev nD → FVec Ideal S32x1024 .f32)
    (hy : ∀ c r d, y c (ix2 r d) = Y (ix2 (rowOf b r) d)) (r : Fin 32) (q : Fin 1024) :
    ∑ c : Dev nD, (mlp (y c) (WI m l c) (WO m l c) (ix2 r q) : EReal) = layerR Y (GI l) (GO l) (ix2 (rowOf b r) q) := by
  rw [layerR_apply, ← net_split]
  refine Finset.sum_congr rfl fun c _ => ?_
  rw [mlp_apply, hi, ho]
  exact net_row _ _ (hy c r) q

include hx hi ho in
theorem after0 (b : Fin 2) (c : Dev nD) (r : Fin 32) (q : Fin 1024) : A m 0 3 b c (ix2 r q) = R1 X GI GO (ix2 (rowOf b r) q) :=
  (bfly_sum _ c _).trans (layer_sum m GI GO hi ho 0 b X (xHalf m b) (xHalf_apply m X hx b) r q)

include hx hi ho in
theorem after1 (b : Fin 2) (c : Dev nD) (r : Fin 32) (q : Fin 1024) : A m 1 3 b c (ix2 r q) = R2 X GI GO (ix2 (rowOf b r) q) :=
  (bfly_sum _ c _).trans (layer_sum m GI GO hi ho 1 b (R1 X GI GO) (A m 0 3 b) (after0 m X GI GO hx hi ho b) r q)

include hx hi ho in
/-- Each device ends with its rows of the reference's result. -/
theorem out_eq (c : Dev nD) : outV m c = Layout.block ⟨2, ![8, 1024]⟩ ⟨2, ![64, 1024]⟩ 0 8 c (R3 X GI GO) := by
  funext i
  rw [Layout.block_apply]
  have hc : c.val < 8 := c.isLt
  have h0 : (i 0).val < 8 := (i 0).isLt
  have e : (rIn c).emb i = ix2 (⟨8 * (c.val % 4) + (i 0).val, by omega⟩ : Fin 32) (i 1) := by
    funext a; apply Fin.ext
    match a with
    | ⟨0, _⟩ => show 8 * (c.val % 4) + 1 * (i 0).val = 8 * (c.val % 4) + (i 0).val; omega
    | ⟨1, _⟩ => show 0 + 1 * (i 1).val = (i 1).val; omega
  have h : outV m c i = ∑ d : Dev nD, (lastP m (half c) d ((rIn c).emb i) : EReal) := by
    rw [← (orderR_all c).sum_comp (fun d => (lastP m (half c) d ((rIn c).emb i) : EReal)), Fin.sum_univ_eight]
    rfl
  rw [h, e]
  refine (layer_sum m GI GO hi ho 2 (half c) (R2 X GI GO) (A m 1 3 (half c)) (after1 m X GI GO hx hi ho (half c)) _ _).trans ?_
  refine congrArg (R3 X GI GO) (funext fun a => Fin.ext ?_)
  match a with
  | ⟨0, _⟩ =>
    show 32 * (c.val / 4) + (8 * (c.val % 4) + (i 0).val) = c.val * 8 + (i 0).val
    omega
  | ⟨1, _⟩ => rfl

end Net

end Cert.KernelIdeal.Bfly

end
-- ==== Proof.lean ====
/- The claims: both programs of the kernel run, leave their arguments as they were and every semaphore at zero; so does the
   reference; and each device's result is its eight rows of the reference's. The kernel's run is proved once, over any
   float values (proof/Proof/Run.lean); what it leaves, over the extended reals, is worked out in proof/Proof/Values.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Lib.Quiescent

@[expose] public section

set_option maxRecDepth 16384

noncomputable section

namespace Cert.Proof

open Idealize.ShloMosaic Idealize.SL.Sem
open Cert.KernelIdeal.Bfly (Ends run_main)

/-- What a device's end says of its seven arguments. -/
theorem args_kept {F : FTy → Type} [FloatOps F]
    {m : (ℓ : Loc Cert.KernelIdeal.nD Cert.KernelIdeal.τ Cert.KernelIdeal.sig) → Buf (Elt F) ℓ}
    {s : MemSt Cert.KernelIdeal.nD Cert.KernelIdeal.τ Cert.KernelIdeal.sig (Elt F)} {c : Dev Cert.KernelIdeal.nD} (h : Ends m s c) :
    s.mem (c.tc.loc Cert.KernelIdeal.main_arg0) = m (c.tc.loc Cert.KernelIdeal.main_arg0)
      ∧ s.mem (c.tc.loc Cert.KernelIdeal.main_arg1) = m (c.tc.loc Cert.KernelIdeal.main_arg1)
      ∧ s.mem (c.tc.loc Cert.KernelIdeal.main_arg2) = m (c.tc.loc Cert.KernelIdeal.main_arg2)
      ∧ s.mem (c.tc.loc Cert.KernelIdeal.main_arg3) = m (c.tc.loc Cert.KernelIdeal.main_arg3)
      ∧ s.mem (c.tc.loc Cert.KernelIdeal.main_arg4) = m (c.tc.loc Cert.KernelIdeal.main_arg4)
      ∧ s.mem (c.tc.loc Cert.KernelIdeal.main_arg5) = m (c.tc.loc Cert.KernelIdeal.main_arg5)
      ∧ s.mem (c.tc.loc Cert.KernelIdeal.main_arg6) = m (c.tc.loc Cert.KernelIdeal.main_arg6) :=
  have k := h.2.1
  ⟨h.1, k _ (.head _), k _ (.tail _ (.head _)), k _ (.tail _ (.tail _ (.head _))), k _ (.tail _ (.tail _ (.tail _ (.head _)))),
    k _ (.tail _ (.tail _ (.tail _ (.tail _ (.head _))))), k _ (.tail _ (.tail _ (.tail _ (.tail _ (.tail _ (.head _))))))⟩

/-- The idealized kernel runs, keeps its arguments and ends quiescent, -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => args_kept (h.1 c), h.2⟩) (run_main (F := Ideal) m ρ)

/-- The kernel as printed has the same text: its bodies, -/
theorem same_defs₀ : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

/-- and the calls of them; -/
theorem same_defs : @Cert.Kernel.defs Bits _ Cert.Kernel.Gen.facts = @Cert.KernelIdeal.defs Bits _ Cert.KernelIdeal.Gen.facts :=
  congrArg (Pipeline.defs (Cert.KernelIdeal.pcfgs (F := Bits))) same_defs₀

/-- so it runs in the same way. -/
theorem frame_kernel : Cert.quiescent_Kernel (hKernel := Cert.Kernel.Gen.facts) := by
  intro m ρ _
  rw [same_defs]
  exact (θ_run (Cert.KernelIdeal.defs (F := Bits)) _ _).mono
    (Q := fun r => (∀ c : Dev Cert.KernelIdeal.nD, Ends m r.2 c) ∧ r.2.sem = fun _ => 0)
    (fun _ h => ⟨fun c => args_kept (h.1 c), h.2⟩) (run_main (F := Bits) m ρ)

/-- The reference has no semaphore, so its run is quiescent. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-- Device `c`'s result is rows `8c … 8c+7` of the reference's. -/
theorem value : Cert.algebraic_KernelIdeal_ReferenceIdeal (hKernelIdeal := Cert.KernelIdeal.Gen.facts)
    (hReferenceIdeal := Cert.ReferenceIdeal.Gen.facts) := by
  intro m ρ m' ρ' _ hin
  let arg (b : Ref Cert.ReferenceIdeal.sig .tc) := m' (((0 : Dev Cert.ReferenceIdeal.nD).tc : Thread Cert.ReferenceIdeal.nD Cert.ReferenceIdeal.τ).loc b)
  let GI : Fin 3 → FVec Ideal ⟨2, ![1024, 16384]⟩ .f32
    | 0 => arg Cert.ReferenceIdeal.main_arg1 | 1 => arg Cert.ReferenceIdeal.main_arg3 | 2 => arg Cert.ReferenceIdeal.main_arg5
  let GO : Fin 3 → FVec Ideal ⟨2, ![16384, 1024]⟩ .f32
    | 0 => arg Cert.ReferenceIdeal.main_arg2 | 1 => arg Cert.ReferenceIdeal.main_arg4 | 2 => arg Cert.ReferenceIdeal.main_arg6
  have hi (l : Fin 3) (c : Dev Cert.KernelIdeal.nD) : Cert.KernelIdeal.Bfly.WI m l c = Cert.KernelIdeal.Bfly.colsOf c (GI l) :=
    match l with
    | 0 => (hin c).2.1
    | 1 => (hin c).2.2.2.1
    | 2 => (hin c).2.2.2.2.2.1
  have ho (l : Fin 3) (c : Dev Cert.KernelIdeal.nD) : Cert.KernelIdeal.Bfly.WO m l c = Cert.KernelIdeal.Bfly.rowsOf c (GO l) :=
    match l with
    | 0 => (hin c).2.2.1
    | 1 => (hin c).2.2.2.2.1
    | 2 => (hin c).2.2.2.2.2.2
  refine ⟨Cert.KernelIdeal.Bfly.R3 (arg Cert.ReferenceIdeal.main_arg0) GI GO, ?_, ?_⟩
  · refine (θ_run (Cert.KernelIdeal.defs (F := Ideal)) _ _).mono (fun r h c => ⟨?_, args_kept (h.1 c)⟩) (run_main (F := Ideal) m ρ)
    exact (h.1 c).2.2.trans (Cert.KernelIdeal.Bfly.out_eq m _ GI GO (fun c => (hin c).1) hi ho c)
  · exact (θ_run (Cert.ReferenceIdeal.defs (F := Ideal)) _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, value⟩

end Cert.Proof

end
